-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![256, 1024]⟩ ⟨2, ![1024, 1024]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 256]⟩ ⟨2, ![1024, 1024]⟩ 1 4 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![1024, 256]⟩ ⟨2, ![1024, 1024]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x1024 : Shape := ⟨2, ![256, 1024]⟩
abbrev S1024x256 : Shape := ⟨2, ![1024, 256]⟩
abbrev S128x1024 : Shape := ⟨2, ![128, 1024]⟩
abbrev S8 : Shape := ⟨1, ![8]⟩
abbrev S_ : Shape := ⟨0, ![]⟩
abbrev S1 : Shape := ⟨1, ![1]⟩
abbrev S256x256 : Shape := ⟨2, ![256, 256]⟩
abbrev S64x1024 : Shape := ⟨2, ![64, 1024]⟩
abbrev S128x256 : Shape := ⟨2, ![128, 256]⟩
abbrev S64x256 : Shape := ⟨2, ![64, 256]⟩

abbrev nBuf : Space → Nat
  | .hbm => 3
  | .vmem => 11
  | .smem => 0
  | _ => 0

abbrev bufTy : (tb : Table) → Fin (tcTables nBuf tb) → BufTy
  | .hbm, ⟨0, _⟩ => ⟨S256x1024, .f32⟩
  | .hbm, ⟨1, _⟩ => ⟨S1024x256, .f32⟩
  | .hbm, ⟨2, _⟩ => ⟨S1024x256, .f32⟩
  | .local _ .vmem, ⟨0, _⟩ => ⟨S256x1024, .f32⟩
  | .local _ .vmem, ⟨1, _⟩ => ⟨S1024x256, .f32⟩
  | .local _ .vmem, ⟨2, _⟩ => ⟨S1024x256, .f32⟩
  | .local _ .vmem, ⟨3, _⟩ => ⟨S256x1024, .bf16⟩
  | .local _ .vmem, ⟨4, _⟩ => ⟨S1024x256, .bf16⟩
  | .local _ .vmem, ⟨5, _⟩ => ⟨S128x1024, .bf16⟩
  | .local _ .vmem, ⟨6, _⟩ => ⟨S128x1024, .bf16⟩
  | .local _ .vmem, ⟨7, _⟩ => ⟨S128x1024, .bf16⟩
  | .local _ .vmem, ⟨8, _⟩ => ⟨S128x1024, .bf16⟩
  | .local _ .vmem, ⟨9, _⟩ => ⟨S128x1024, .bf16⟩
  | .local _ .vmem, ⟨10, _⟩ => ⟨S128x1024, .bf16⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 1 → Bool
  | ⟨0, _⟩ => false
  | _ => false

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  (ofTc nBuf bufTy 1 19 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_scratch6 : Ref sig .tc := ⟨.vmem, 9, rfl⟩
abbrev cc0_scratch7 : Ref sig .tc := ⟨.vmem, 10, rfl⟩
abbrev cc0_sem0_0 : DmaSem sig := 0
abbrev cc0_sem1_0 : DmaSem sig := 1
abbrev cc0_sem2_0 : DmaSem sig := 2
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_15 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_14 : BitVec 32 := 1#32
  let v26 : BitVec 32 := Scalar.muli v13 c1_i32_14
  let v27 : BitVec 32 := Scalar.addi c0_i32_15 v26
  v27.toNat
def k0_dev2 (d0 : Dev nD) : Nat :=
  let c0_i32_18 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_17 : BitVec 32 := 1#32
  let v28 : BitVec 32 := Scalar.muli v24 c1_i32_17
  let v29 : BitVec 32 := Scalar.addi c0_i32_18 v28
  v29.toNat
def k0_dev3 (d0 : Dev nD) : Nat :=
  let c0_i32_29 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_28 : BitVec 32 := 1#32
  let v42 : BitVec 32 := Scalar.muli v24 c1_i32_28
  let v43 : BitVec 32 := Scalar.addi c0_i32_29 v42
  v43.toNat
def k0_dev4 (d0 : Dev nD) : Nat :=
  let c0_i32_34 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_33 : BitVec 32 := 1#32
  let v49 : BitVec 32 := Scalar.muli v13 c1_i32_33
  let v50 : BitVec 32 := Scalar.addi c0_i32_34 v49
  v50.toNat
def k0_dev5 (d0 : Dev nD) : Nat :=
  let c0_i32_39 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_38 : BitVec 32 := 1#32
  let v56 : BitVec 32 := Scalar.muli v24 c1_i32_38
  let v57 : BitVec 32 := Scalar.addi c0_i32_39 v56
  v57.toNat
def k0_dev6 (d0 : Dev nD) : Nat :=
  let c0_i32_45 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_44 : BitVec 32 := 1#32
  let v63 : BitVec 32 := Scalar.muli v13 c1_i32_44
  let v64 : BitVec 32 := Scalar.addi c0_i32_45 v63
  v64.toNat
def k0_off1 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32 : BitVec 32 := 256#32
  let v73 : BitVec 32 := Scalar.muli v2 c256_i32
  let v74 : Index := Scalar.indexCast v73
  let c0_52 : Index := 0#32
  ![v74.toNat, 0]
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_61 : BitVec 32 := 1#32
  let v81 : BitVec 32 := Scalar.muli v24 c1_i32_61
  let v82 : BitVec 32 := Scalar.addi c0_i32_62 v81
  v82.toNat
def k0_dev8 (d0 : Dev nD) : Nat :=
  let c0_i32_69 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_68 : BitVec 32 := 1#32
  let v89 : BitVec 32 := Scalar.muli v24 c1_i32_68
  let v90 : BitVec 32 := Scalar.addi c0_i32_69 v89
  v90.toNat
def k0_dev9 (d0 : Dev nD) : Nat :=
  let c0_i32_81 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_80 : BitVec 32 := 1#32
  let v102 : BitVec 32 := Scalar.muli v13 c1_i32_80
  let v103 : BitVec 32 := Scalar.addi c0_i32_81 v102
  v103.toNat
def k0_dev10 (d0 : Dev nD) : Nat :=
  let c0_i32_88 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_87 : BitVec 32 := 1#32
  let v110 : BitVec 32 := Scalar.muli v13 c1_i32_87
  let v111 : BitVec 32 := Scalar.addi c0_i32_88 v110
  v111.toNat
def k0_off2 (d0 : Dev nD) (c0_i32_106 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_93 : BitVec 32 := 1#32
  let v118 : BitVec 32 := Scalar.subi v2 c1_i32_93
  let c4_i32_94 : BitVec 32 := 4#32
  let c0_i32_95 : BitVec 32 := 0#32
  let v119 : BitVec 1 := Scalar.cmpi .eq c4_i32_94 c0_i32_95
  let c1_i32_96 : BitVec 32 := 1#32
  let v120 : BitVec 32 := Scalar.select v119 c1_i32_96 c4_i32_94
  let v121 : BitVec 32 := Scalar.remsi v118 v120
  let c0_i32_98 : BitVec 32 := 0#32
  let v123 : BitVec 1 := Scalar.cmpi .slt v121 c0_i32_98
  let c0_i32_99 : BitVec 32 := 0#32
  let v124 : BitVec 1 := Scalar.cmpi .slt v120 c0_i32_99
  let v125 : BitVec 1 := Scalar.xori v123 v124
  let c0_i32_97 : BitVec 32 := 0#32
  let v122 : BitVec 1 := Scalar.cmpi .ne v121 c0_i32_97
  let v126 : BitVec 1 := Scalar.andi v125 v122
  let v127 : BitVec 32 := Scalar.addi v121 v120
  let v128 : BitVec 32 := Scalar.select v126 v127 v121
  let c256_i32_105 : BitVec 32 := 256#32
  let v132 : BitVec 32 := Scalar.muli v128 c256_i32_105
  let v133 : BitVec 32 := Scalar.addi v132 c0_i32_106
  let v134 : Index := Scalar.indexCast v133
  let c0_107 : Index := 0#32
  ![v134.toNat, 0]
def k0_off3 (d0 : Dev nD) (c128_i32_121 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_108 : BitVec 32 := 1#32
  let v136 : BitVec 32 := Scalar.addi v2 c1_i32_108
  let c4_i32_109 : BitVec 32 := 4#32
  let c0_i32_110 : BitVec 32 := 0#32
  let v137 : BitVec 1 := Scalar.cmpi .eq c4_i32_109 c0_i32_110
  let c1_i32_111 : BitVec 32 := 1#32
  let v138 : BitVec 32 := Scalar.select v137 c1_i32_111 c4_i32_109
  let v139 : BitVec 32 := Scalar.remsi v136 v138
  let c0_i32_113 : BitVec 32 := 0#32
  let v141 : BitVec 1 := Scalar.cmpi .slt v139 c0_i32_113
  let c0_i32_114 : BitVec 32 := 0#32
  let v142 : BitVec 1 := Scalar.cmpi .slt v138 c0_i32_114
  let v143 : BitVec 1 := Scalar.xori v141 v142
  let c0_i32_112 : BitVec 32 := 0#32
  let v140 : BitVec 1 := Scalar.cmpi .ne v139 c0_i32_112
  let v144 : BitVec 1 := Scalar.andi v143 v140
  let v145 : BitVec 32 := Scalar.addi v139 v138
  let v146 : BitVec 32 := Scalar.select v144 v145 v139
  let c256_i32_120 : BitVec 32 := 256#32
  let v150 : BitVec 32 := Scalar.muli v146 c256_i32_120
  let v151 : BitVec 32 := Scalar.addi v150 c128_i32_121
  let v152 : Index := Scalar.indexCast v151
  let c0_122 : Index := 0#32
  ![v152.toNat, 0]
def k0_off4 (d0 : Dev nD) (c0_i32_186 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_165 : BitVec 32 := 2#32
  let v200 : BitVec 32 := Scalar.addi v2 c2_i32_165
  let c4_i32_166 : BitVec 32 := 4#32
  let c0_i32_167 : BitVec 32 := 0#32
  let v201 : BitVec 1 := Scalar.cmpi .eq c4_i32_166 c0_i32_167
  let c1_i32_168 : BitVec 32 := 1#32
  let v202 : BitVec 32 := Scalar.select v201 c1_i32_168 c4_i32_166
  let v203 : BitVec 32 := Scalar.remsi v200 v202
  let c0_i32_170 : BitVec 32 := 0#32
  let v205 : BitVec 1 := Scalar.cmpi .slt v203 c0_i32_170
  let c0_i32_171 : BitVec 32 := 0#32
  let v206 : BitVec 1 := Scalar.cmpi .slt v202 c0_i32_171
  let v207 : BitVec 1 := Scalar.xori v205 v206
  let c0_i32_169 : BitVec 32 := 0#32
  let v204 : BitVec 1 := Scalar.cmpi .ne v203 c0_i32_169
  let v208 : BitVec 1 := Scalar.andi v207 v204
  let v209 : BitVec 32 := Scalar.addi v203 v202
  let v210 : BitVec 32 := Scalar.select v208 v209 v203
  let c256_i32_185 : BitVec 32 := 256#32
  let v220 : BitVec 32 := Scalar.muli v210 c256_i32_185
  let v221 : BitVec 32 := Scalar.addi v220 c0_i32_186
  let v222 : Index := Scalar.indexCast v221
  let c0_187 : Index := 0#32
  ![v222.toNat, 0]
abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S1024x1024 : Shape := ⟨2, ![1024, 1024]⟩

abbrev nBuf : Space → Nat
  | .hbm => 3
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.Proto.lean ====
/- The protocol of the four devices: the ring they form, the semaphores they use and what each
   arrival on a semaphore hands over.

   Every device casts its block of `x` into a scratch buffer, splits it in a top and a bottom half and
   sends both halves to both neighbours.  The half that a device gets FIRST from a neighbour is sent
   on, in two pieces, to the other neighbour, so that after two hops every device has the whole of
   `x`.  All of it is written here as one table over seventeen semaphores per device:

   * number 0 is the barrier: each neighbour adds one unit to it, and with the unit gives away the
     three landing buffers that the owner of the barrier is about to write;
   * numbers 1 to 8 are the sending semaphores: the arrival gives the source of the transfer back;
   * numbers 9 to 16 are the receiving semaphores: the arrival gives the landing buffer, with what it
     holds. -/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev 𝒱₀ : Variants := Variants.none

variable (m : (ℓ : Loc nD τ sig) → Buf (Elt F) ℓ) (ρ : Dev nD → PrngReg)

/-- The state at launch: any contents, all counters zero, any generator registers. -/
def s₀ : MemSt nD τ sig (Elt F) := ⟨m, fun _ => 0, ρ⟩

/-! ## The ring of devices -/

set_option backward.proofsInPublic true in
/-- The device one step to the right. -/
def nxt (c : Dev nD) : Dev nD := ⟨(c.val + 1) % 4, Nat.mod_lt _ (by decide)⟩
set_option backward.proofsInPublic true in
/-- The device one step to the left. -/
def prv (c : Dev nD) : Dev nD := ⟨(c.val + 3) % 4, Nat.mod_lt _ (by decide)⟩

theorem prv_nxt (c : Dev nD) : prv (nxt c) = c := by revert c; decide
theorem nxt_prv (c : Dev nD) : nxt (prv c) = c := by revert c; decide
/-- Two steps to the right and two steps to the left lead to the same device, the one opposite. -/
theorem prv_prv (c : Dev nD) : prv (prv c) = nxt (nxt c) := by revert c; decide

/-- The addresses that the kernel computes: the two signals, then the eight transfers. -/
theorem dev1_eq (c : Dev nD) : (⟨k0_dev1 c, k0_dev1_lt c⟩ : Dev nD) = prv c := by revert c; decide +kernel
theorem dev2_eq (c : Dev nD) : (⟨k0_dev2 c, k0_dev2_lt c⟩ : Dev nD) = nxt c := by revert c; decide +kernel
theorem dev3_eq (c : Dev nD) : (⟨k0_dev3 c, k0_dev3_lt c⟩ : Dev nD) = nxt c := by revert c; decide +kernel
theorem dev4_eq (c : Dev nD) : (⟨k0_dev4 c, k0_dev4_lt c⟩ : Dev nD) = prv c := by revert c; decide +kernel
theorem dev5_eq (c : Dev nD) : (⟨k0_dev5 c, k0_dev5_lt c⟩ : Dev nD) = nxt c := by revert c; decide +kernel
theorem dev6_eq (c : Dev nD) : (⟨k0_dev6 c, k0_dev6_lt c⟩ : Dev nD) = prv c := by revert c; decide +kernel
theorem dev7_eq (c : Dev nD) : (⟨k0_dev7 c, k0_dev7_lt c⟩ : Dev nD) = nxt c := by revert c; decide +kernel
theorem dev8_eq (c : Dev nD) : (⟨k0_dev8 c, k0_dev8_lt c⟩ : Dev nD) = nxt c := by revert c; decide +kernel
theorem dev9_eq (c : Dev nD) : (⟨k0_dev9 c, k0_dev9_lt c⟩ : Dev nD) = prv c := by revert c; decide +kernel
theorem dev10_eq (c : Dev nD) : (⟨k0_dev10 c, k0_dev10_lt c⟩ : Dev nD) = prv c := by revert c; decide +kernel

/-! ## The buffers and their parts -/

abbrev xM : Memref sig .tc .vmem S256x1024 .f32 := Memref.whole cc0_stg0_0
abbrev wM : Memref sig .tc .vmem S1024x256 .f32 := Memref.whole cc0_stg1_0
abbrev oM : Memref sig .tc .vmem S1024x256 .f32 := Memref.whole cc0_stg2_0
/-- The cast block of `x`, and of `w`. -/
abbrev xbM : Memref sig .tc .vmem S256x1024 .bf16 := Memref.whole cc0_scratch0
abbrev wbM : Memref sig .tc .vmem S1024x256 .bf16 := Memref.whole cc0_scratch1
/-- The landing buffers: top and bottom half of the left neighbour, top and bottom half of the
    right neighbour, top and bottom half of the device opposite. -/
abbrev tL : Memref sig .tc .vmem S128x1024 .bf16 := Memref.whole cc0_scratch2
abbrev bL : Memref sig .tc .vmem S128x1024 .bf16 := Memref.whole cc0_scratch3
abbrev tR : Memref sig .tc .vmem S128x1024 .bf16 := Memref.whole cc0_scratch4
abbrev bR : Memref sig .tc .vmem S128x1024 .bf16 := Memref.whole cc0_scratch5
abbrev tO : Memref sig .tc .vmem S128x1024 .bf16 := Memref.whole cc0_scratch6
abbrev bO : Memref sig .tc .vmem S128x1024 .bf16 := Memref.whole cc0_scratch7

/-- Rows 0 to 127 and rows 128 to 255 of a block. -/
abbrev rTop : Rect S256x1024 := Rect.unit (s := S256x1024) ![0, 0] S128x1024.size inb_S256x1024_S128x1024_0_0
abbrev rBot : Rect S256x1024 := Rect.unit (s := S256x1024) ![128, 0] S128x1024.size inb_S256x1024_S128x1024_128_0
/-- Rows 0 to 63 and rows 64 to 127 of a half. -/
abbrev rLo : Rect S128x1024 := Rect.unit (s := S128x1024) ![0, 0] S64x1024.size inb_S128x1024_S64x1024_0_0
abbrev rHi : Rect S128x1024 := Rect.unit (s := S128x1024) ![64, 0] S64x1024.size inb_S128x1024_S64x1024_64_0

abbrev xT : Memref sig .tc .vmem S128x1024 .bf16 := xbM.slice rTop (fun _ => rfl)
abbrev xB : Memref sig .tc .vmem S128x1024 .bf16 := xbM.slice rBot (fun _ => rfl)

/-- The lower and the upper 64 rows of a half. -/
abbrev lo (M : Memref sig .tc .vmem S128x1024 .bf16) : Memref sig .tc .vmem S64x1024 .bf16 := M.slice rLo (fun _ => rfl)
abbrev hi (M : Memref sig .tc .vmem S128x1024 .bf16) : Memref sig .tc .vmem S64x1024 .bf16 := M.slice rHi (fun _ => rfl)

/-- Device `c` holds the elements of the view `M` at share `q`, the buffer agreeing with `f` on them. -/
def has {s : Shape} {e : EltTy} (M : Memref sig .tc .vmem s e) (c : Dev nD) (q : PosShare TreeShare)
    (f : Buf (Elt F) (M.view.loc (c : Thread nD τ))) : sProp 𝕄 :=
  M.view.loc (c : Thread nD τ) ↦[M.view.set]{q} f

instance has_storable {s : Shape} {e : EltTy} (M : Memref sig .tc .vmem s e) (c : Dev nD) (q : PosShare TreeShare) (f) :
    BI.Storable (upEmb : UEmb _ 𝕄) (has (F := F) M c q f) := by unfold has; infer_instance

/-- A buffer held whole is its points-to. -/
theorem has_whole (b : Ref sig .tc) {s : Shape} {e : EltTy} (c : Dev nD) (q : PosShare TreeShare)
    (M : Memref sig .tc .vmem s e) (h : M.view.set = Finset.univ) (f) :
    has (F := F) M c q f = (M.view.loc (c : Thread nD τ) ↦{q} f : sProp 𝕄) := by unfold has; rw [h]

/-! ## The shares

The cast block of `x` is read by the core while two transfers per half read it as well: one share for
the core, one for the first pair of transfers, one for the second.  A landed half that is sent on is
shared between the core and the transfer. -/

abbrev qCore : PosShare TreeShare := (fullShare : PosShare TreeShare).left
abbrev qFst : PosShare TreeShare := (fullShare : PosShare TreeShare).right.left
abbrev qSnd : PosShare TreeShare := (fullShare : PosShare TreeShare).right.right
abbrev qFwd : PosShare TreeShare := (fullShare : PosShare TreeShare).right

/-! ## Contents -/

/-- What device `c` has staged of `x` and of `w`. -/
def xstg (c : Dev nD) : (cc0_stg0_0 : Ref sig .tc).ty.Contents (Elt F) :=
  (win0_0.blk (0 : Fin 1)).view.read (Elt F) ((s₀ m ρ).mem ((c : Thread nD τ).loc main_arg0))
def wstg (c : Dev nD) : (cc0_stg1_0 : Ref sig .tc).ty.Contents (Elt F) :=
  (win0_1.blk (0 : Fin 1)).view.read (Elt F) ((s₀ m ρ).mem ((c : Thread nD τ).loc main_arg1))

/-- The cast blocks. -/
def xb (c : Dev nD) : (cc0_scratch0 : Ref sig .tc).ty.Contents (Elt F) := k0_pay2 (k0_pay1 (xstg m ρ c))
def wb (c : Dev nD) : (cc0_scratch1 : Ref sig .tc).ty.Contents (Elt F) := k0_pay3 (wstg m ρ c)

/-- The two halves of device `c`'s cast block, as contents of a buffer of that size. -/
def top (c : Dev nD) : S128x1024.Idx → Elt F .bf16 := (xT : Memref sig .tc .vmem S128x1024 .bf16).view.read (Elt F) (xb m ρ c)
def bot (c : Dev nD) : S128x1024.Idx → Elt F .bf16 := (xB : Memref sig .tc .vmem S128x1024 .bf16).view.read (Elt F) (xb m ρ c)

/-! ## The seventeen semaphores of a device -/

abbrev barS : Sem sig := (SemArray.scalar (sig.barrier 0 rfl) : Sems sig S_).sem

/-- Semaphore number `k` of the table. -/
abbrev kloc (k : Fin 17) : SemLoc sig :=
  if k.val = 0 then .reg barS else .dma (⟨k.val + 2, by have := k.isLt; show _ < 19; omega⟩ : Fin 19)

/-- Semaphore number `k` of device `c`. -/
abbrev kcell (p : Fin 17 × Dev nD) : GSem nD τ sig := ((p.2 : Thread nD τ), kloc p.1)

/-- The number of a semaphore in the table, if it is in the table. -/
def kof : SemLoc sig → Option (Fin 17)
  | .reg _ => some 0
  | .dma q => if h : 3 ≤ q.val ∧ q.val < 19 then some ⟨q.val - 2, by omega⟩ else none

theorem kof_kloc (k : Fin 17) : kof (kloc k) = some k := by revert k; decide
theorem kloc_inj : Function.Injective kloc := fun a b h => Option.some.inj ((kof_kloc a).symm.trans ((congrArg kof h).trans (kof_kloc b)))
theorem kcell_inj : Function.Injective kcell := fun a b h => by
  obtain ⟨a₁, a₂⟩ := a; obtain ⟨b₁, b₂⟩ := b
  have h₁ : (a₂.tc : Thread nD τ) = b₂.tc := congrArg Prod.fst h
  exact Prod.ext (kloc_inj (congrArg Prod.snd h)) (congrArg Prod.fst h₁)

/-- The credit of a transfer of a half, and of half a half. -/
abbrev N1 : ℕ := (tL : Memref sig .tc .vmem S128x1024 .bf16).view.dmaCredit
abbrev N2 : ℕ := (lo tO : Memref sig .tc .vmem S64x1024 .bf16).view.dmaCredit
theorem N1_pos : 0 < N1 := View.dmaCredit_pos _ (by decide)
theorem N2_pos : 0 < N2 := View.dmaCredit_pos _ (by decide)

/-- What one arrival on semaphore `k` adds to it. -/
def Nk (k : Fin 17) : ℕ := if k.val = 0 then 1 else if k.val ≤ 4 then N1 else if k.val ≤ 8 then N2 else if k.val ≤ 12 then N1 else N2
theorem Nk_pos (k : Fin 17) : 0 < Nk k := by unfold Nk; (repeat' split) <;> first | exact Nat.one_pos | exact N1_pos | exact N2_pos

/-- What an arrival on semaphore `k` of device `c` gives to `c`. -/
def pay (c : Dev nD) (k : Fin 17) (d : Bool) : sProp 𝕄 :=
  match k.val with
  | 0 => if d then iprop((∃ f, has tL (nxt c) fullShare f) ∗ (∃ f, has bL (nxt c) fullShare f) ∗ (∃ f, has tO (nxt c) fullShare f))
         else iprop((∃ f, has tR (prv c) fullShare f) ∗ (∃ f, has bR (prv c) fullShare f) ∗ (∃ f, has bO (prv c) fullShare f))
  | 1 => has xT c qFst (xb m ρ c)
  | 2 => has xB c qSnd (xb m ρ c)
  | 3 => has xT c qSnd (xb m ρ c)
  | 4 => has xB c qFst (xb m ρ c)
  | 5 => has (lo tL) c qFwd (top m ρ (prv c))
  | 6 => has (hi tL) c qFwd (top m ρ (prv c))
  | 7 => has (lo bR) c qFwd (bot m ρ (nxt c))
  | 8 => has (hi bR) c qFwd (bot m ρ (nxt c))
  | 9 => has tL c fullShare (top m ρ (prv c))
  | 10 => has bL c fullShare (bot m ρ (prv c))
  | 11 => has tR c fullShare (top m ρ (nxt c))
  | 12 => has bR c fullShare (bot m ρ (nxt c))
  | 13 => has (lo tO) c fullShare (top m ρ (nxt (nxt c)))
  | 14 => has (hi tO) c fullShare (top m ρ (nxt (nxt c)))
  | 15 => has (lo bO) c fullShare (bot m ρ (nxt (nxt c)))
  | _ => has (hi bO) c fullShare (bot m ρ (nxt (nxt c)))

instance pay_storable (c : Dev nD) (k : Fin 17) (d : Bool) : BI.Storable (upEmb : UEmb _ 𝕄) (pay m ρ c k d) := by
  unfold pay
  split <;> (try split) <;> infer_instance

/-! ## The schedule -/

/-- Every semaphore of the table has one round: two arrivals on the barrier (`true` from the right
    neighbour, `false` from the left one), one arrival on each of the others. -/
def sched : Rounds.Schedule (GSem nD τ sig) Bool 𝕄 where
  duties g r := if r = 0 ∧ g.1.2 = .tc then (match kof g.2 with | none => ∅ | some k => if k.val = 0 then Finset.univ else {false}) else ∅
  unitless _ := False
  amount g _ _ := match kof g.2 with | none => 1 | some k => Nk k
  payload g _ d := match kof g.2 with | none => iprop(emp) | some k => pay m ρ g.1.1 k d
  amount_pos g _ _ _ := by
    cases kof g.2 with
    | none => exact Nat.one_pos
    | some k => exact Nk_pos k

instance sched_payload_storable (g : GSem nD τ sig) (r : ℕ) (d : Bool) :
    BI.Storable (upEmb : UEmb _ 𝕄) ((sched (F := F) m ρ).payload g r d) := by
  show BI.Storable upEmb (match kof g.2 with | none => iprop(emp) | some k => pay m ρ g.1.1 k d)
  split <;> infer_instance

/-- The arrivals that semaphore `k` expects. -/
def arr (k : Fin 17) : Finset Bool := if k.val = 0 then Finset.univ else {false}

theorem duties_eq (c : Dev nD) (k : Fin 17) : (sched (F := F) m ρ).duties (kcell (k, c)) 0 = arr k := by
  dsimp only [sched]; rw [if_pos ⟨rfl, rfl⟩, kof_kloc]; rfl
theorem duties_later (g : GSem nD τ sig) : ∀ r, 1 ≤ r → (sched (F := F) m ρ).duties g r = ∅ :=
  fun r hr => by dsimp only [sched]; rw [if_neg fun h => by omega]
theorem amount_eq (c : Dev nD) (k : Fin 17) (r : ℕ) (d : Bool) : (sched (F := F) m ρ).amount (kcell (k, c)) r d = Nk k := by
  dsimp only [sched]; rw [kof_kloc]
theorem payload_eq (c : Dev nD) (k : Fin 17) (r : ℕ) (d : Bool) : (sched (F := F) m ρ).payload (kcell (k, c)) r d = pay m ρ c k d := by
  dsimp only [sched]; rw [kof_kloc]
theorem expect_eq (c : Dev nD) (k : Fin 17) : (sched (F := F) m ρ).expect (kcell (k, c)) 0 = (arr k).card * Nk k := by
  unfold Schedule.expect Schedule.amountOf
  rw [duties_eq, Finset.sum_congr rfl fun d _ => amount_eq m ρ c k 0 d, Finset.sum_const, smul_eq_mul]

/-! ## What each device owes -/

/-- The arrivals that device `c` still has to make, the next one first. -/
abbrev Owed : Type := List (Fin 17 × Dev nD)

/-- What the accounting records for such a list. -/
def owedL : Owed → CellTallies nD τ sig Unit
  | [] => 0
  | p :: ps => owedL ps + tallyAt (kcell p) () (Nk p.1)

/-- Everything device `c` does for others, in program order. -/
def payList (c : Dev nD) : Owed :=
  [(0, prv c), (0, nxt c), (9, nxt c), (12, prv c), (10, nxt c), (11, prv c), (13, nxt c), (14, nxt c), (15, prv c), (16, prv c)]

theorem owedL_pos {ps : Owed} {g : GSem nD τ sig} {u : Unit} (h : 0 < owedL ps g u) : ∃ p ∈ ps, g = kcell p := by
  induction ps with
  | nil => exact absurd h (Nat.lt_irrefl 0)
  | cons p ps ih =>
    unfold owedL at h
    rw [Pi.add_apply, Finsupp.add_apply, tallyAt_apply] at h
    by_cases hg : g = kcell p
    · exact ⟨p, List.mem_cons_self .., hg⟩
    · rw [if_neg (fun h' => hg h'.1), Nat.add_zero] at h
      obtain ⟨p', hp', hg'⟩ := ih h
      exact ⟨p', List.mem_cons_of_mem _ hp', hg'⟩

/-! ## Levels: a device waits on a semaphore only while all it owes lies above that semaphore -/

def L (g : GSem nD τ sig) : Finset Unit := if g.1.2 = .tc then {()} else ∅
/-- Barrier 1, sending 0, the first hop 2, the second hop 3. -/
def klev (k : Fin 17) : ℕ := if k.val = 0 then 1 else if k.val ≤ 8 then 0 else if k.val ≤ 12 then 2 else 3
def lv (g : GSem nD τ sig) (_ : Unit) : ℕ := match kof g.2 with | none => 0 | some k => klev k

theorem L_of_ne (g : GSem nD τ sig) (h : g.1.2 ≠ .tc) : L g = ∅ := if_neg h
theorem L_tc (c : Dev nD) (sm : SemLoc sig) : L ((c : Thread nD τ), sm) = {()} := if_pos rfl
theorem lv_kcell (p : Fin 17 × Dev nD) (u : Unit) : lv (kcell p) u = klev p.1 := by unfold lv; rw [kof_kloc]

/-- A wait is allowed while every semaphore owed has a higher level. -/
theorem may_wait (c : Dev nD) (sm : SemLoc sig) (ps : Owed) (h : ∀ p ∈ ps, lv ((c : Thread nD τ), sm) () < klev p.1) :
    (levAts L lv : sProp 𝕄) ⊢ MayWait (c : Thread nD τ) sm () (owedL ps) :=
  MayOwe.of_cut (L := L) (lev := lv) (lv ((c : Thread nD τ), sm) ())
    (fun p hp => by rw [Finset.mem_singleton.mp hp, L_tc]; exact Finset.mem_singleton_self _)
    (fun g u hg => by obtain ⟨p, _, rfl⟩ := owedL_pos hg; rw [L_tc]; exact Finset.mem_singleton_self _)
    (fun p hp => by rw [Finset.mem_singleton.mp hp])
    (fun g u hg => by obtain ⟨p, hp, rfl⟩ := owedL_pos hg; rw [lv_kcell]; exact h p hp)

end Cert.RingProof

end
-- ==== Proof.Steps.lean ====
/- One lemma for each kind of operation of the kernel body, in the terms of the protocol: a signal, a
   wait, a transfer, a load, a store of a whole buffer and a store of a part of the result; and the
   lemmas by which a buffer is taken apart in halves or shares and put together again. -/
module

public import proofs.«01_k».proof.Proof.Proto

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## Taking buffers apart -/

/-- A buffer is two of its rectangles that are disjoint and cover it. -/
theorem has_two {s : Shape} {e : EltTy} (M : Memref sig .tc .vmem s e) (r₁ r₂ : Rect s) (h₁ : ∀ a, r₁.stride a = 1)
    (h₂ : ∀ a, r₂.stride a = 1) (hd : Disjoint r₁.set r₂.set) (hc : r₁.set ∪ r₂.set = Finset.univ)
    (c : Dev nD) (q : PosShare TreeShare) (f) :
    has (F := F) M c q f = iprop(has (M.slice r₁ h₁) c q f ∗ has (M.slice r₂ h₂) c q f) := by
  have e₁ : (M.slice r₁ h₁).view.set = r₁.set.map M.view.emb := View.set_slice _ _
  have e₂ : (M.slice r₂ h₂).view.set = r₂.set.map M.view.emb := View.set_slice _ _
  have hu : M.view.set = (M.slice r₁ h₁).view.set ∪ (M.slice r₂ h₂).view.set := by
    rw [e₁, e₂, ← Finset.map_union, hc]; rfl
  have hdd : Disjoint (M.slice r₁ h₁).view.set (M.slice r₂ h₂).view.set := by
    rw [e₁, e₂]; exact (Finset.disjoint_map _).mpr hd
  unfold has
  rw [hu]
  have hh : (M.view.loc (c : Thread nD τ) ↦[(M.slice r₁ h₁).view.set ∪ (M.slice r₂ h₂).view.set]{q} f : sProp 𝕄)
      ⊣⊢ iprop((M.view.loc (c : Thread nD τ) ↦[(M.slice r₁ h₁).view.set]{q} f) ∗ M.view.loc (c : Thread nD τ) ↦[(M.slice r₂ h₂).view.set]{q} f) :=
    pointsTo_union hdd
  exact BI.equiv_iff.mp ⟨hh.1, hh.2⟩

/-- The share of a view splits. -/
theorem has_share {s : Shape} {e : EltTy} (M : Memref sig .tc .vmem s e) (c : Dev nD) (q : PosShare TreeShare) (f) :
    has (F := F) M c q f = iprop(has M c q.left f ∗ has M c q.right f) := by
  unfold has
  have hh : (M.view.loc (c : Thread nD τ) ↦[M.view.set]{q} f : sProp 𝕄)
      ⊣⊢ iprop((M.view.loc (c : Thread nD τ) ↦[M.view.set]{q.left} f) ∗ M.view.loc (c : Thread nD τ) ↦[M.view.set]{q.right} f) :=
    pointsTo_share (PosShare.mem_left_op_right q)
  exact BI.equiv_iff.mp ⟨hh.1, hh.2⟩

theorem rows_split {n k : ℕ} {w : ℕ} (r₁ r₂ : Rect ⟨2, ![n, w]⟩)
    (h₁ : ∀ y : (⟨2, ![n, w]⟩ : Shape).Idx, y ∈ r₁.set ↔ (y 0).val < k) (h₂ : ∀ y : (⟨2, ![n, w]⟩ : Shape).Idx, y ∈ r₂.set ↔ k ≤ (y 0).val) :
    Disjoint r₁.set r₂.set ∧ r₁.set ∪ r₂.set = Finset.univ :=
  ⟨Finset.disjoint_left.mpr fun y a b => absurd ((h₁ y).mp a) (Nat.not_lt.mpr ((h₂ y).mp b)),
   Finset.eq_univ_iff_forall.mpr fun y => Finset.mem_union.mpr ((Nat.lt_or_ge (y 0).val k).imp (h₁ y).mpr (h₂ y).mpr)⟩

theorem x_rows : Disjoint rTop.set rBot.set ∧ rTop.set ∪ rBot.set = Finset.univ :=
  rows_split (n := 256) (w := 1024) (k := 128) rTop rBot
    (fun y => by
      rw [Rect.mem_set_unit, Fin.forall_fin_two]; have h0 : (y 0).val < 256 := (y 0).isLt; have h1 : (y 1).val < 1024 := (y 1).isLt
      show ((0 ≤ (y 0).val ∧ (y 0).val < 0 + 128) ∧ (0 ≤ (y 1).val ∧ (y 1).val < 0 + 1024)) ↔ _; omega)
    (fun y => by
      rw [Rect.mem_set_unit, Fin.forall_fin_two]; have h0 : (y 0).val < 256 := (y 0).isLt; have h1 : (y 1).val < 1024 := (y 1).isLt
      show ((128 ≤ (y 0).val ∧ (y 0).val < 128 + 128) ∧ (0 ≤ (y 1).val ∧ (y 1).val < 0 + 1024)) ↔ _; omega)

theorem half_rows : Disjoint rLo.set rHi.set ∧ rLo.set ∪ rHi.set = Finset.univ :=
  rows_split (n := 128) (w := 1024) (k := 64) rLo rHi
    (fun y => by
      rw [Rect.mem_set_unit, Fin.forall_fin_two]; have h0 : (y 0).val < 128 := (y 0).isLt; have h1 : (y 1).val < 1024 := (y 1).isLt
      show ((0 ≤ (y 0).val ∧ (y 0).val < 0 + 64) ∧ (0 ≤ (y 1).val ∧ (y 1).val < 0 + 1024)) ↔ _; omega)
    (fun y => by
      rw [Rect.mem_set_unit, Fin.forall_fin_two]; have h0 : (y 0).val < 128 := (y 0).isLt; have h1 : (y 1).val < 1024 := (y 1).isLt
      show ((64 ≤ (y 0).val ∧ (y 0).val < 64 + 64) ∧ (0 ≤ (y 1).val ∧ (y 1).val < 0 + 1024)) ↔ _; omega)

/-- The cast block: the core's share, and for each of the two pairs of transfers a share of each half. -/
theorem x_split (c : Dev nD) (f) :
    has (F := F) xbM c fullShare f
      = iprop(has xbM c qCore f ∗ (has xT c qFst f ∗ has xB c qFst f) ∗ (has xT c qSnd f ∗ has xB c qSnd f)) := by
  rw [has_share xbM c fullShare f, has_share xbM c (fullShare : PosShare TreeShare).right f,
    has_two xbM rTop rBot (fun _ => rfl) (fun _ => rfl) x_rows.1 x_rows.2 c qFst f,
    has_two xbM rTop rBot (fun _ => rfl) (fun _ => rfl) x_rows.1 x_rows.2 c qSnd f]

/-- A landing buffer is its lower and its upper part. -/
theorem half_split (M : Memref sig .tc .vmem S128x1024 .bf16) (c : Dev nD) (q : PosShare TreeShare) (f) :
    has (F := F) M c q f = iprop(has (lo M) c q f ∗ has (hi M) c q f) :=
  has_two M rLo rHi (fun _ => rfl) (fun _ => rfl) half_rows.1 half_rows.2 c q f

/-- A landed half that is sent on: the core's share, and the transfers' shares of its two parts. -/
theorem fwd_split (M : Memref sig .tc .vmem S128x1024 .bf16) (c : Dev nD) (f) :
    has (F := F) M c fullShare f = iprop(has M c qCore f ∗ (has (lo M) c qFwd f ∗ has (hi M) c qFwd f)) := by
  rw [has_share M c fullShare f, half_split M c qFwd f]

/-! ## What every device knows, and what it owes -/

/-- The invariants of all the semaphores of the table, and that each has reached its round. -/
def known (K : Fin 17 × Dev nD → ℕ) : sProp 𝕄 :=
  bigSep Finset.univ fun p => iprop(cellInv ER (sched m ρ) (K p) (kcell p) ∗ reached ER (kcell p) 0)

instance known_persistent (K : Fin 17 × Dev nD → ℕ) : BI.Persistent (known m ρ K) := by unfold known; infer_instance

theorem known_at (K : Fin 17 × Dev nD → ℕ) (p : Fin 17 × Dev nD) :
    known m ρ K ⊢ iprop(cellInv ER (sched m ρ) (K p) (kcell p) ∗ reached ER (kcell p) 0) :=
  BI.bigSep_elim (Φ := fun p => iprop(cellInv ER (sched m ρ) (K p) (kcell p) ∗ reached ER (kcell p) 0)) (Finset.mem_univ p)
theorem known_inv (K : Fin 17 × Dev nD → ℕ) (p : Fin 17 × Dev nD) : known m ρ K ⊢ cellInv ER (sched m ρ) (K p) (kcell p) := by
  iintro H
  ihave H := (known_at m ρ K p) $$ H
  icases H with ⟨H, -⟩
  iexact H
theorem known_reached (K : Fin 17 × Dev nD → ℕ) (p : Fin 17 × Dev nD) : known m ρ K ⊢ reached ER (kcell p) 0 := by
  iintro H
  ihave H := (known_at m ρ K p) $$ H
  icases H with ⟨-, H⟩
  iexact H

/-- Device `c` still owes the arrivals of the list. -/
def ow (c : Dev nD) (ps : Owed) : sProp 𝕄 := iprop(∃ W, owes (c : Thread nD τ) (owedL ps) W)

/-- The right to make arrival `d` on semaphore `p`. -/
abbrev tok (p : Fin 17 × Dev nD) (d : Bool) : sProp 𝕄 := dutyTok ER (kcell p) 0 d
/-- Device `c` has not yet waited on its semaphore `k`. -/
abbrev pos (c : Dev nD) (k : Fin 17) : sProp 𝕄 := atPos ER (kcell (k, c)) 0 ∅ 0
/-- All of semaphore `k`'s arrivals are to come to device `c`. -/
abbrev due (c : Dev nD) (k : Fin 17) : sProp 𝕄 := cred (tallyAt (kcell (k, c)) () ((arr k).card * Nk k))
/-- Semaphore `k` of device `c` is back at zero for good. -/
abbrev done (c : Dev nD) (k : Fin 17) : sProp 𝕄 := semVal (kcell (k, c)) 0

variable (K : Fin 17 × Dev nD → ℕ)

/-- A signal to a neighbour's barrier: one arrival less to make, its payload handed over. -/
theorem wp_sig {α : Type} (c n n' : Dev nD) (hn : n' = n) (d : Bool) (ps : Owed) {k' : ℕ} (hk' : k' = 1)
    {k : PUnit → Prog (TpuEff nD τ sig (Elt F) Λ₀ .tc) α} {Q : α → sProp 𝕄} :
    iprop(known m ρ K ∗ ow c ((0, n) :: ps) ∗ tok (0, n) d ∗ pay m ρ n 0 d)
      ⊢ iprop((ow c ps -∗ wp frame (wpE (defs₀ (F := F)) 𝒱₀ (c : Thread nD τ) none) Set.univ (k ⟨⟩) Q)
          -∗ wp frame (wpE (defs₀ (F := F)) 𝒱₀ (c : Thread nD τ) none) Set.univ
              (.op (.semSignal (Dev.tc n' : Thread nD τ) barS k') k) Q) := by
  subst hn hk'
  iintro ⟨#HK, Ho, Ht, Hp⟩ Hk
  unfold ow
  icases Ho with ⟨%W, Ho⟩
  iapply (Rounds.wp_signal 𝒱₀ ER (sched m ρ) (c : Thread nD τ) none (dst := (n' : Thread nD τ)) (sem := barS) (κ := K (0, n'))
      (d := d) (r := 0) (k' := 1) (by
        rw [show (((n' : Dev nD) : Thread nD τ), SemLoc.reg barS) = kcell (0, n') from rfl, duties_eq]; exact Finset.mem_univ _)
      (amount_eq m ρ n' 0 0 d) () (O₀ := owedL ((0, n') :: ps)) (owedL ps) rfl) $$ [Ho Ht Hp]
  · isplitr; · iapply (known_inv m ρ K (0, n')); iexact HK
    isplitl [Ho]; · iexact Ho
    isplitl [Ht]; · iexact Ht
    isplitl [Hp]; · iapply (Entails.of_eq (show pay m ρ n' 0 d = (sched m ρ).payload ((n' : Thread nD τ), SemLoc.reg barS) 0 d from
        (payload_eq m ρ n' 0 0 d).symm)); iexact Hp
    iapply (known_reached m ρ K (0, n')); iexact HK
  iintro Ho
  iapply Hk
  iexists W
  iexact Ho

/-- What the one round of semaphore `k` brings, none of its arrivals taken before. -/
theorem rest_eq (c : Dev nD) (k : Fin 17) :
    bigSep ((sched m ρ).duties ((c : Thread nD τ), kloc k) 0 \ ∅) (fun d => (sched m ρ).payload ((c : Thread nD τ), kloc k) 0 d)
      = bigSep (arr k) (fun d => pay m ρ c k d) := by
  rw [Finset.sdiff_empty, show ((((c : Dev nD) : Thread nD τ), kloc k) : GSem nD τ sig) = kcell (k, c) from rfl, duties_eq]
  exact BI.bigSep_congr fun d _ => payload_eq m ρ c k 0 d

/-- A wait for all the arrivals of semaphore `k`: the payloads come, and the semaphore is closed at zero. -/
theorem wp_wait {α : Type} (c : Dev nD) (k : Fin 17) (ps : Owed) (hlev : ((ps.map Prod.fst).all fun j => decide (klev k < klev j)) = true)
    {w : TpuEff nD τ sig (Elt F) Λ₀ .tc PUnit} {sm : SemLoc sig} {k' : ℕ} (hsm : sm = kloc k) (hk' : k' = (arr k).card * Nk k)
    (hw : ∀ Kt : PUnit → sProp 𝕄, wpE (defs₀ (F := F)) 𝒱₀ (c : Thread nD τ) none Set.univ w Kt = waitSpec (c : Thread nD τ) Set.univ sm k' Kt)
    {kk : PUnit → Prog (TpuEff nD τ sig (Elt F) Λ₀ .tc) α} {Q : α → sProp 𝕄} :
    iprop(known m ρ K ∗ levAts L lv ∗ due c k ∗ ow c ps ∗ pos c k)
      ⊢ iprop(((ow c ps ∗ done c k ∗ bigSep (arr k) (fun d => pay m ρ c k d)) -∗ wp frame (wpE (defs₀ (F := F)) 𝒱₀ (c : Thread nD τ) none) Set.univ (kk ⟨⟩) Q)
          -∗ wp frame (wpE (defs₀ (F := F)) 𝒱₀ (c : Thread nD τ) none) Set.univ (.op w kk) Q) := by
  subst hsm hk'
  iintro ⟨#HK, #Hlev, Hc, Ho, Hat⟩ Hk
  unfold ow
  icases Ho with ⟨%W, Ho⟩
  iapply (Rounds.wp_wait_rest_token 𝒱₀ ER (sched m ρ) (c : Thread nD τ) none (κ := K (k, c)) hw (Set.mem_univ _) ()
      (O := owedL ps) (W := W) (R := 0) (m := 0) (T := ∅) (by rw [Nat.zero_add]; exact (expect_eq m ρ c k).symm)) $$ [Hc Ho Hat]
  · isplitr; · iapply (known_inv m ρ K (k, c)); iexact HK
    isplitl [Hc]; · iexact Hc
    isplitl [Ho]; · iexact Ho
    isplitr
    · iapply (may_wait c (kloc k) ps (fun p hp => by
        rw [show lv (((c : Dev nD) : Thread nD τ), kloc k) () = klev k from lv_kcell (k, c) ()]
        exact of_decide_eq_true (List.all_eq_true.mp hlev p.1 (List.mem_map_of_mem hp))))
      iexact Hlev
    iexact Hat
  iintro ⟨Ho, Hat, -, Hpay⟩
  imod (Rounds.cell_close ER (sched m ρ) (κ := K (k, c)) (Es := Set.univ) (Set.mem_univ _) (fun h => h) (R := 0 + 1) (duties_later m ρ (kcell (k, c)))) $$ [Hat] with Hz
  · isplitr; · iapply (known_inv m ρ K (k, c)); iexact HK
    iexact Hat
  iapply Hk
  isplitl [Ho]; · iexists _; iexact Ho
  isplitl [Hz]; · iexact Hz
  iapply (Entails.of_eq (rest_eq m ρ c k))
  iexact Hpay

/-- A transfer to device `n`: the source goes to the sending semaphore `k₁`, the destination, written, to `n`'s
    receiving semaphore `k₂`; one arrival less to make, one to come. -/
theorem wp_send {α : Type} (c n n' : Dev nD) (hn : n' = n) {s : Shape} (src dst : Memref sig .tc .vmem s .bf16) (k₁ k₂ : Fin 17)
    (hk₁ : arr k₁ = {false}) (hk₂ : arr k₂ = {false}) (ps : Owed) (q : PosShare TreeShare)
    (fs : Buf (Elt F) (src.view.loc (c : Thread nD τ)))
    (hN₁ : Nk k₁ = dst.view.dmaCredit) (hN₂ : Nk k₂ = dst.view.dmaCredit)
    (hp₁ : has src c q fs ⊢ pay m ρ c k₁ false)
    (hp₂ : ∀ fd, has dst n fullShare (dst.view.write (Elt F) fd (src.view.read (Elt F) fs) Finset.univ) ⊢ pay m ρ n k₂ false)
    {s₁ s₂ : DmaSem sig} (hs₁ : SemLoc.dma s₁ = kloc k₁) (hs₂ : SemLoc.dma s₂ = kloc k₂)
    {hsc : (dst : Memref sig (Dev.tc n' : Thread nD τ).2.kind .vmem s .bf16).view.ref.isScScratch = false}
    {hsrc : src.view.WordExact} {hdst : dst.view.WordExact}
    {hsem : DmaTarget.Typed .vmem (.dma s₂) (.remote (Dev.tc n' : Thread nD τ) dst (.dma s₁) hsc)}
    {k : PUnit → Prog (TpuEff nD τ sig (Elt F) Λ₀ .tc) α} {Q : α → sProp 𝕄} :
    iprop(known m ρ K ∗ has src c q fs ∗ (∃ fd, has dst n fullShare fd) ∗ ow c ((k₂, n) :: ps) ∗ tok (k₁, c) false ∗ tok (k₂, n) false)
      ⊢ iprop(((due c k₁ ∗ ow c ps) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n' : Thread nD τ) dst (.dma s₁) hsc) (.dma s₂) hsrc hdst hsem) k) Q) := by
  subst hn
  iintro ⟨#HK, Hs, ⟨%fd, Hd⟩, Ho, Ht₁, Ht₂⟩ Hk
  unfold ow
  icases Ho with ⟨%W, Ho⟩
  have e₁ : (((c : Thread nD τ), SemLoc.dma s₁) : GSem nD τ sig) = kcell (k₁, c) := by rw [hs₁]
  have e₂ : (((n' : Thread nD τ), SemLoc.dma s₂) : GSem nD τ sig) = kcell (k₂, n') := by rw [hs₂]
  iapply (Rounds.wp_send_pointsTo 𝒱₀ ER (sched m ρ) (c : Thread nD τ) none (κ₁ := K (k₁, c)) (κ₂ := K (k₂, n'))
    (q := q) (fs := fs) (r₁ := 0) (r₂ := 0) (d₁ := false) (d₂ := false) (fd := fd)
    (by rw [e₁, duties_eq, hk₁]; exact Finset.mem_singleton_self _) (by rw [e₂, duties_eq, hk₂]; exact Finset.mem_singleton_self _)
    () () dst.view.dmaCredit rfl (by rw [e₁, amount_eq, hN₁]) (by rw [e₂, amount_eq, hN₂])
    (O₀ := owedL ((k₂, n') :: ps)) (owedL ps) (by rw [e₂, ← hN₂]; rfl) (W := W)
    (by rw [e₁, payload_eq]; exact hp₁) (by rw [e₂, payload_eq]; exact hp₂ fd)) $$ [Hs Hd Ho Ht₁ Ht₂]
  · rw [e₁, e₂]
    isplitr; · iapply (known_inv m ρ K (k₁, c)); iexact HK
    isplitr; · iapply (known_inv m ρ K (k₂, n')); iexact HK
    isplitl [Hs]; · unfold has; iexact Hs
    isplitl [Hd]; · unfold has; iexact Hd
    isplitl [Ho]; · iexact Ho
    isplitl [Ht₁]; · iexact Ht₁
    isplitr; · iapply (known_reached m ρ K (k₁, c)); iexact HK
    isplitl [Ht₂]; · iexact Ht₂
    iapply (known_reached m ρ K (k₂, n')); iexact HK
  iintro ⟨Hc, Ho⟩
  iapply Hk
  isplitl [Hc]
  · unfold due; rw [hk₁, Finset.card_singleton, Nat.one_mul, hN₁, e₁]; iexact Hc
  iexists W
  iexact Ho

/-- A load through any rectangle of a view that is held. -/
theorem wp_ld {α : Type} (c : Dev nD) {s : Shape} {e : EltTy} (M : Memref sig .tc .vmem s e) (r : LoadRect s) {hl : M.view.LoadsAt r}
    (q : PosShare TreeShare) (f) {k : (r.shape.Idx → Elt F e) → Prog (TpuEff nD τ sig (Elt F) Λ₀ .tc) α} {Q : α → sProp 𝕄} :
    has M c q f
      ⊢ iprop((has M c q f -∗ wp frame (wpE (defs₀ (F := F)) 𝒱₀ (c : Thread nD τ) none) Set.univ (k (M.view.readAt (Elt F) r f)) Q)
          -∗ wp frame (wpE (defs₀ (F := F)) 𝒱₀ (c : Thread nD τ) none) Set.univ (.op (.load M r hl) k) Q) :=
  wp_load 𝒱₀ (c : Thread nD τ) none Set.univ (m := M) (r := r) (hl := hl) (S := M.view.set) (q := q) (f := f) (View.setOn_subset_set _ _)

/-- A load of exactly the rectangle of a view that is held. -/
theorem wp_ld_part {α : Type} (c : Dev nD) {s : Shape} {e : EltTy} (M : Memref sig .tc .vmem s e) (r : Rect s) (hr : ∀ a, r.stride a = 1)
    {hl : M.view.LoadsAt r.toLoadRect} (q : PosShare TreeShare) (f)
    {k : (r.shape.Idx → Elt F e) → Prog (TpuEff nD τ sig (Elt F) Λ₀ .tc) α} {Q : α → sProp 𝕄} :
    has (M.slice r hr) c q f
      ⊢ iprop((has (M.slice r hr) c q f -∗ wp frame (wpE (defs₀ (F := F)) 𝒱₀ (c : Thread nD τ) none) Set.univ (k ((M.slice r hr).view.read (Elt F) f)) Q)
          -∗ wp frame (wpE (defs₀ (F := F)) 𝒱₀ (c : Thread nD τ) none) Set.univ (.op (.load M r.toLoadRect hl) k) Q) :=
  wp_load_rect 𝒱₀ (c : Thread nD τ) none Set.univ (m := M) (r := r) (hl := hl) (S := (M.slice r hr).view.set) (q := q) (f := f) (Finset.Subset.refl _)

/-- The kernel reads every place before it overwrites it and drops what it read: load and store together. -/
theorem wp_put {α : Type} (c : Dev nD) {s : Shape} {e : EltTy} (M : Memref sig .tc .vmem s e) (r : Rect s) (w : r.shape.Idx → Elt F e)
    {hl : M.view.LoadsAt r.toLoadRect} {hx : (M.access r).Stores Finset.univ} {hm : Finset.univ = Finset.univ ∨ ∀ a, r.stride a = 1}
    (f : Buf (Elt F) (M.view.loc (c : Thread nD τ))) (ls : List (View.Piece (Elt F) s e)) {k : PUnit → Prog (TpuEff nD τ sig (Elt F) Λ₀ .tc) α} {Q : α → sProp 𝕄} :
    has M c fullShare (M.view.writes (Elt F) f ls)
      ⊢ iprop((has M c fullShare (M.view.writes (Elt F) f (⟨r, w⟩ :: ls)) -∗ wp frame (wpE (defs₀ (F := F)) 𝒱₀ (c : Thread nD τ) none) Set.univ (k ⟨⟩) Q)
          -∗ wp frame (wpE (defs₀ (F := F)) 𝒱₀ (c : Thread nD τ) none) Set.univ
              (.op (.load M r.toLoadRect hl) fun _ => .op (.store M r w Finset.univ hx hm) k) Q) := by
  iintro Ho Hk
  iapply (wp_ld c M r.toLoadRect fullShare (M.view.writes (Elt F) f ls)) $$ Ho
  iintro Ho
  unfold has
  iapply (wp_store_writes 𝒱₀ (c : Thread nD τ) none Set.univ (m := M) (r := r) (w := w) (hx := hx) (hm := hm) (k := k) (S := M.view.set)
    (f := f) (L := ls) (View.set_slice_subset _ _)) $$ Ho
  iexact Hk

/-- The first load and store of a buffer held at plain contents. -/
theorem wp_put₀ {α : Type} (c : Dev nD) {s : Shape} {e : EltTy} (M : Memref sig .tc .vmem s e) (r : Rect s) (w : r.shape.Idx → Elt F e)
    {hl : M.view.LoadsAt r.toLoadRect} {hx : (M.access r).Stores Finset.univ} {hm : Finset.univ = Finset.univ ∨ ∀ a, r.stride a = 1}
    (f : Buf (Elt F) (M.view.loc (c : Thread nD τ))) {k : PUnit → Prog (TpuEff nD τ sig (Elt F) Λ₀ .tc) α} {Q : α → sProp 𝕄} :
    has M c fullShare f
      ⊢ iprop((has M c fullShare (M.view.writes (Elt F) f [⟨r, w⟩]) -∗ wp frame (wpE (defs₀ (F := F)) 𝒱₀ (c : Thread nD τ) none) Set.univ (k ⟨⟩) Q)
          -∗ wp frame (wpE (defs₀ (F := F)) 𝒱₀ (c : Thread nD τ) none) Set.univ
              (.op (.load M r.toLoadRect hl) fun _ => .op (.store M r w Finset.univ hx hm) k) Q) := by
  have h := wp_put (α := α) c M r w (hl := hl) (hx := hx) (hm := hm) f [] (k := k) (Q := Q)
  rw [View.writes_nil] at h
  exact h

end Cert.RingProof

end
-- ==== Proof.BodyA.lean ====
/- The kernel body up to the middle: the two signals, the casts, the four transfers of the first hop, the device's own
   product, and the first two pieces that are sent on. -/
module

public import proofs.«01_k».proof.Proof.Steps

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)
variable (K : Fin 17 × Dev nD → ℕ)

/-! ## Reading and writing whole buffers -/

theorem hz : (![0, 0] : Fin 2 → Nat) = fun _ => 0 := funext fun a => by fin_cases a <;> rfl

abbrev rX : Rect S256x1024 := Rect.unit (s := S256x1024) ![0, 0] S256x1024.size inb_S256x1024_S256x1024_0_0
abbrev rW : Rect S1024x256 := Rect.unit (s := S1024x256) ![0, 0] S1024x256.size inb_S1024x256_S1024x256_0_0
abbrev rH : Rect S128x1024 := Rect.unit (s := S128x1024) ![0, 0] S128x1024.size inb_S128x1024_S128x1024_0_0

theorem rd_x (f) : (xM : Memref sig .tc .vmem S256x1024 .f32).view.readAt (Elt F) rX.toLoadRect f = f := Memref.readAt_unit_zero (Elt F) cc0_stg0_0 hz _ f
theorem rd_w (f) : (wM : Memref sig .tc .vmem S1024x256 .f32).view.readAt (Elt F) rW.toLoadRect f = f := Memref.readAt_unit_zero (Elt F) cc0_stg1_0 hz _ f
theorem rd_xb (f) : (xbM : Memref sig .tc .vmem S256x1024 .bf16).view.readAt (Elt F) rX.toLoadRect f = f := Memref.readAt_unit_zero (Elt F) cc0_scratch0 hz _ f
theorem rd_wb (f) : (wbM : Memref sig .tc .vmem S1024x256 .bf16).view.readAt (Elt F) rW.toLoadRect f = f := Memref.readAt_unit_zero (Elt F) cc0_scratch1 hz _ f
theorem rd_tL (f) : (tL : Memref sig .tc .vmem S128x1024 .bf16).view.readAt (Elt F) rH.toLoadRect f = f := Memref.readAt_unit_zero (Elt F) cc0_scratch2 hz _ f
theorem rd_bL (f) : (bL : Memref sig .tc .vmem S128x1024 .bf16).view.readAt (Elt F) rH.toLoadRect f = f := Memref.readAt_unit_zero (Elt F) cc0_scratch3 hz _ f
theorem rd_tR (f) : (tR : Memref sig .tc .vmem S128x1024 .bf16).view.readAt (Elt F) rH.toLoadRect f = f := Memref.readAt_unit_zero (Elt F) cc0_scratch4 hz _ f
theorem rd_bR (f) : (bR : Memref sig .tc .vmem S128x1024 .bf16).view.readAt (Elt F) rH.toLoadRect f = f := Memref.readAt_unit_zero (Elt F) cc0_scratch5 hz _ f

/-- A store over the whole of a buffer leaves what was stored. -/
theorem wr_xb (f w : (cc0_scratch0 : Ref sig .tc).ty.Contents (Elt F)) :
    (xbM : Memref sig .tc .vmem S256x1024 .bf16).view.writes (Elt F) f [⟨rX, w⟩] = w := by
  rw [View.writes_singleton]; exact Memref.write_access_unit_zero_univ (Elt F) cc0_scratch0 hz _ f w
theorem wr_wb (f w : (cc0_scratch1 : Ref sig .tc).ty.Contents (Elt F)) :
    (wbM : Memref sig .tc .vmem S1024x256 .bf16).view.writes (Elt F) f [⟨rW, w⟩] = w := by
  rw [View.writes_singleton]; exact Memref.write_access_unit_zero_univ (Elt F) cc0_scratch1 hz _ f w

/-- A transfer over the whole of a landing buffer leaves what was sent. -/
theorem land_whole (b : Ref sig .tc) (f w : b.ty.Contents (Elt F)) : (View.whole b).write (Elt F) f w Finset.univ = w := View.write_whole_univ _ _ _

/-! ## The result, as a list of stores -/

abbrev pc1 (c : Dev nD) : View.Piece (Elt F) S1024x256 .f32 :=
  ⟨Rect.unit (s := S1024x256) (k0_off1 c) S256x256.size (k0_off1_inb c), k0_pay4 (xb m ρ c) (wb m ρ c)⟩

/-- The result buffer after the stores of the list, the latest first. -/
abbrev out (c : Dev nD) (g : Buf (Elt F) ((oM : Memref sig .tc .vmem S1024x256 .f32).view.loc (c : Thread nD τ))) (ls : List (View.Piece (Elt F) S1024x256 .f32)) : sProp 𝕄 :=
  has oM c fullShare ((oM : Memref sig .tc .vmem S1024x256 .f32).view.writes (Elt F) g ls)

/-! ## The parts of the body, at the buffers of this program -/

abbrev at1 := k0_part1 (F := F) xM (Memref.isWhole_whole _) wM (Memref.isWhole_whole _) oM (Memref.isWhole_whole _) xbM (Memref.isWhole_whole _) wbM (Memref.isWhole_whole _)
  tL (Memref.isWhole_whole _) bL (Memref.isWhole_whole _) tR (Memref.isWhole_whole _) bR (Memref.isWhole_whole _) tO (Memref.isWhole_whole _) bO (Memref.isWhole_whole _) cc0_scratch8 cc0_scratch9
abbrev at2 := k0_part2 (F := F) xM (Memref.isWhole_whole _) wM (Memref.isWhole_whole _) oM (Memref.isWhole_whole _) xbM (Memref.isWhole_whole _) wbM (Memref.isWhole_whole _)
  tL (Memref.isWhole_whole _) bL (Memref.isWhole_whole _) tR (Memref.isWhole_whole _) bR (Memref.isWhole_whole _) tO (Memref.isWhole_whole _) bO (Memref.isWhole_whole _) cc0_scratch8 cc0_scratch9

abbrev bar : Sems sig S_ := SemArray.scalar (sig.barrier 0 rfl)

/-- The payload of the barrier semaphore: both neighbours' landing buffers. -/
theorem pay_bar (c : Dev nD) : bigSep (arr 0) (fun d => pay m ρ c 0 d)
    = iprop(((∃ f, has tR (prv c) fullShare f) ∗ (∃ f, has bR (prv c) fullShare f) ∗ (∃ f, has bO (prv c) fullShare f))
      ∗ ((∃ f, has tL (nxt c) fullShare f) ∗ (∃ f, has bL (nxt c) fullShare f) ∗ (∃ f, has tO (nxt c) fullShare f))) := by
  rw [show arr 0 = Finset.univ from rfl, bigSep_univ_eq_bigSepL [false, true] (by decide) (by decide), bigSepL_cons_cons, bigSepL_singleton]; rfl

/-- What a signal to the left neighbour hands over, and one to the right neighbour. -/
theorem pay_right (c : Dev nD) : pay m ρ (prv c) 0 true
    = iprop((∃ f, has tL c fullShare f) ∗ (∃ f, has bL c fullShare f) ∗ (∃ f, has tO c fullShare f)) := by
  show iprop((∃ f, has tL (nxt (prv c)) fullShare f) ∗ (∃ f, has bL (nxt (prv c)) fullShare f) ∗ (∃ f, has tO (nxt (prv c)) fullShare f)) = _
  rw [nxt_prv]
theorem pay_left (c : Dev nD) : pay m ρ (nxt c) 0 false
    = iprop((∃ f, has tR c fullShare f) ∗ (∃ f, has bR c fullShare f) ∗ (∃ f, has bO c fullShare f)) := by
  show iprop((∃ f, has tR (prv (nxt c)) fullShare f) ∗ (∃ f, has bR (prv (nxt c)) fullShare f) ∗ (∃ f, has bO (prv (nxt c)) fullShare f)) = _
  rw [prv_nxt]

/-- The payload of any other semaphore. -/
theorem pay_one (c : Dev nD) (k : Fin 17) (h : arr k = {false}) : bigSep (arr k) (fun d => pay m ρ c k d) = pay m ρ c k false := by
  rw [h, bigSep_singleton]

set_option maxHeartbeats 1600000 in
/-- Part 1: both neighbours are told that this device's landing buffers may be written. -/
theorem part1 (c : Dev nD) (Kt) :
    iprop((known m ρ K ∗ ow c (payList c) ∗ tok (0, prv c) true ∗ tok (0, nxt c) false ∗ has xM c fullShare (xstg m ρ c)
        ∗ (∃ f, has tL c fullShare f) ∗ (∃ f, has bL c fullShare f) ∗ (∃ f, has tO c fullShare f)
        ∗ (∃ f, has tR c fullShare f) ∗ (∃ f, has bR c fullShare f) ∗ (∃ f, has bO c fullShare f))
      ∗ (∀ v2 v13 v24, (ow c ((payList c).drop 2) ∗ has xM c fullShare (xstg m ρ c)) -∗ Kt ⟨c, v2, v13, v24, bar, k0_pay1 (xstg m ρ c)⟩))
      ⊢ wp frame (wpE (defs₀ (F := F)) 𝒱₀ (c : Thread nD τ) none) Set.univ at1 Kt := by
  unfold at1
  simp only [k0_part1_eq_skeleton]
  unfold k0_part1_skel
  simp only [semSignalWord, semWaitWord, Prog.lift, Prog.bind_op, Prog.bind_ret, Prog.pure_eq_ret, wp_deviceId]
  iintro ⟨⟨#HK, Ho, Ht1, Ht2, Hx, HtL, HbL, HtO, HtR, HbR, HbO⟩, Hk⟩
  iapply (wp_sig m ρ K c (prv c) _ (dev1_eq c) true ((payList c).drop 1) rfl) $$ [Ho Ht1 HtL HbL HtO]
  · isplitr; · iexact HK
    isplitl [Ho]; · iexact Ho
    isplitl [Ht1]; · iexact Ht1
    iapply (Entails.of_eq (pay_right m ρ c).symm)
    isplitl [HtL]; · iexact HtL
    isplitl [HbL]; · iexact HbL
    iexact HtO
  iintro Ho
  iapply (wp_sig m ρ K c (nxt c) _ (dev2_eq c) false ((payList c).drop 2) rfl) $$ [Ho Ht2 HtR HbR HbO]
  · isplitr; · iexact HK
    isplitl [Ho]; · iexact Ho
    isplitl [Ht2]; · iexact Ht2
    iapply (Entails.of_eq (pay_left m ρ c).symm)
    isplitl [HtR]; · iexact HtR
    isplitl [HbR]; · iexact HbR
    iexact HbO
  iintro Ho
  iapply (wp_ld c xM rX.toLoadRect fullShare (xstg m ρ c)) $$ Hx
  iintro Hx
  rw [wp_ret]
  imodintro
  rw [rd_x]
  iapply Hk
  isplitl [Ho]; · iexact Ho
  iexact Hx

/-- The cast block of `x` as the body stores it, split for its readers; and the cast block of `w`. -/
theorem x_cast (c : Dev nD) (f) :
    has xbM c fullShare ((xbM : Memref sig .tc .vmem S256x1024 .bf16).view.writes (Elt F) f [⟨rX, k0_pay2 (k0_pay1 (xstg m ρ c))⟩])
      = iprop(has xbM c qCore (xb m ρ c) ∗ (has xT c qFst (xb m ρ c) ∗ has xB c qFst (xb m ρ c)) ∗ (has xT c qSnd (xb m ρ c) ∗ has xB c qSnd (xb m ρ c))) := by
  rw [wr_xb]; exact x_split c (xb m ρ c)
theorem w_cast (c : Dev nD) (f) :
    has wbM c fullShare ((wbM : Memref sig .tc .vmem S1024x256 .bf16).view.writes (Elt F) f [⟨rW, k0_pay3 (wstg m ρ c)⟩])
      = has wbM c fullShare (wb m ρ c) := by
  rw [wr_wb]; rfl

set_option maxHeartbeats 1600000 in
/-- Part 2: the blocks are cast, the neighbours' landing buffers come in, the top half goes right and the bottom half left. -/
theorem part2 (c : Dev nD) (v13 v24 : BitVec 32) (fx fw) (Kt) :
    iprop((known m ρ K ∗ levAts L lv ∗ ow c ((payList c).drop 2) ∗ due c 0 ∗ pos c 0
        ∗ has xbM c fullShare fx ∗ has wbM c fullShare fw ∗ has wM c fullShare (wstg m ρ c)
        ∗ tok (1, c) false ∗ tok (9, nxt c) false ∗ tok (4, c) false ∗ tok (12, prv c) false)
      ∗ ((ow c ((payList c).drop 4) ∗ done c 0 ∗ due c 1 ∗ due c 4 ∗ has xbM c qCore (xb m ρ c) ∗ has xT c qSnd (xb m ρ c) ∗ has xB c qSnd (xb m ρ c)
          ∗ has wbM c fullShare (wb m ρ c) ∗ has wM c fullShare (wstg m ρ c)
          ∗ (∃ f, has bL (nxt c) fullShare f) ∗ (∃ f, has tO (nxt c) fullShare f) ∗ (∃ f, has tR (prv c) fullShare f) ∗ (∃ f, has bO (prv c) fullShare f)) -∗ Kt ⟨⟩))
      ⊢ wp frame (wpE (defs₀ (F := F)) 𝒱₀ (c : Thread nD τ) none) Set.univ (at2 c v13 v24 bar (k0_pay1 (xstg m ρ c))) Kt := by
  unfold at2
  simp only [k0_part2_eq_skeleton]
  unfold k0_part2_skel
  simp only [semSignalWord, semWaitWord, Prog.lift, Prog.bind_op, Prog.bind_ret, Prog.pure_eq_ret, wp_deviceId]
  iintro ⟨⟨#HK, #HL, Ho, Hd, Hp, Hx, Hwb, Hw, Ht1, Ht9, Ht4, Ht12⟩, Hk⟩
  iapply (wp_put₀ c xbM rX (k0_pay2 (k0_pay1 (xstg m ρ c))) fx) $$ Hx
  iintro Hx
  ihave Hx := (Entails.of_eq (x_cast m ρ c fx)) $$ Hx
  icases Hx with ⟨HxC, ⟨HxT1, HxB1⟩, HxT2, HxB2⟩
  iapply (wp_ld c wM rW.toLoadRect fullShare (wstg m ρ c)) $$ Hw
  iintro Hw
  rw [rd_w]
  iapply (wp_put₀ c wbM rW (k0_pay3 (wstg m ρ c)) fw) $$ Hwb
  iintro Hwb
  ihave Hwb := (Entails.of_eq (w_cast m ρ c fw)) $$ Hwb
  iapply (wp_wait m ρ K c 0 ((payList c).drop 2) rfl rfl rfl (wpE_semWait_eq 𝒱₀ (c : Thread nD τ) none Set.univ)) $$ [Hd Ho Hp]
  · isplitr; · iexact HK
    isplitr; · iexact HL
    isplitl [Hd]; · iexact Hd
    isplitl [Ho]; · iexact Ho
    iexact Hp
  iintro ⟨Ho, Hz, Hpay⟩
  ihave Hpay := (Entails.of_eq (pay_bar m ρ c)) $$ Hpay
  icases Hpay with ⟨⟨HtR, HbR, HbO⟩, HtL, HbL, HtO⟩
  iapply (wp_send m ρ K c (nxt c) _ (dev3_eq c) xT tL 1 9 rfl rfl ((payList c).drop 3) qFst (xb m ρ c) rfl rfl (BI.Entails.refl _)
    (fun fd => Entails.of_eq (by
      rw [show ((tL : Memref sig .tc .vmem S128x1024 .bf16).view.write (Elt F) fd ((xT : Memref sig .tc .vmem S128x1024 .bf16).view.read (Elt F) (xb m ρ c)) Finset.univ) = top m ρ c from land_whole _ _ _]
      show _ = has tL (nxt c) fullShare (top m ρ (prv (nxt c)))
      rw [prv_nxt])) rfl rfl) $$ [HxT1 HtL Ho Ht1 Ht9]
  · isplitr; · iexact HK
    isplitl [HxT1]; · iexact HxT1
    isplitl [HtL]; · iexact HtL
    isplitl [Ho]; · iexact Ho
    isplitl [Ht1]; · iexact Ht1
    iexact Ht9
  iintro ⟨Hd1, Ho⟩
  iapply (wp_send m ρ K c (prv c) _ (dev4_eq c) xB bR 4 12 rfl rfl ((payList c).drop 4) qFst (xb m ρ c) rfl rfl (BI.Entails.refl _)
    (fun fd => Entails.of_eq (by
      rw [show ((bR : Memref sig .tc .vmem S128x1024 .bf16).view.write (Elt F) fd ((xB : Memref sig .tc .vmem S128x1024 .bf16).view.read (Elt F) (xb m ρ c)) Finset.univ) = bot m ρ c from land_whole _ _ _]
      show _ = has bR (prv c) fullShare (bot m ρ (nxt (prv c)))
      rw [nxt_prv])) rfl rfl) $$ [HxB1 HbR Ho Ht4 Ht12]
  · isplitr; · iexact HK
    isplitl [HxB1]; · iexact HxB1
    isplitl [HbR]; · iexact HbR
    isplitl [Ho]; · iexact Ho
    isplitl [Ht4]; · iexact Ht4
    iexact Ht12
  iintro ⟨Hd4, Ho⟩
  rw [wp_ret]
  imodintro
  iapply Hk
  isplitl [Ho]; · iexact Ho
  isplitl [Hz]; · iexact Hz
  isplitl [Hd1]; · iexact Hd1
  isplitl [Hd4]; · iexact Hd4
  isplitl [HxC]; · iexact HxC
  isplitl [HxT2]; · iexact HxT2
  isplitl [HxB2]; · iexact HxB2
  isplitl [Hwb]; · iexact Hwb
  isplitl [Hw]; · iexact Hw
  isplitl [HbL]; · iexact HbL
  isplitl [HtO]; · iexact HtO
  isplitl [HtR]; · iexact HtR
  iexact HbO

end Cert.RingProof

end
-- ==== Proof.BodyB.lean ====
/- The kernel body in the middle: the rest of the first hop, the device's own product, and the halves that are sent on. -/
module

public import proofs.«01_k».proof.Proof.BodyA

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)
variable (K : Fin 17 × Dev nD → ℕ)

/-! ## A wait for a transfer -/

/-- A wait for a transfer takes what the cell's one duty brought. -/
theorem wp_land {α : Type} (c : Dev nD) (k : Fin 17) (ps : Owed) (hlev : ((ps.map Prod.fst).all fun j => decide (klev k < klev j)) = true)
    {s s' : Shape} (dst : Memref sig .tc .vmem s .bf16) {sem : DmaSem sig} (hsm : SemLoc.dma sem = kloc k) (hN : dst.view.dmaCredit = Nk k) (hk : arr k = {false})
    {src : Memref sig .tc .vmem s' .bf16} {hsrc : src.view.WordExact} {hdst : dst.view.WordExact}
    {kk : PUnit → Prog (TpuEff nD τ sig (Elt F) Λ₀ .tc) α} {Q : α → sProp 𝕄} :
    iprop(known m ρ K ∗ levAts L lv ∗ due c k ∗ ow c ps ∗ pos c k)
      ⊢ iprop(((ow c ps ∗ done c k ∗ bigSep (arr k) (fun d => pay m ρ c k d)) -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 sem src dst hsrc hdst) kk) Q) :=
  wp_wait m ρ K c k ps hlev hsm (k' := dst.view.dmaCredit) (by rw [hN, hk, Finset.card_singleton, Nat.one_mul])
    (wpE_waitDma2_eq 𝒱₀ (c : Thread nD τ) none Set.univ)

/-! ## What the transfers leave -/

/-- The address three steps to the right is the left neighbour. -/
theorem nxt3 (c : Dev nD) : nxt (nxt (nxt c)) = prv c := by revert c; decide

theorem land10 (c : Dev nD) (fd) :
    has bL (nxt c) fullShare ((bL : Memref sig .tc .vmem S128x1024 .bf16).view.write (Elt F) fd ((xB : Memref sig .tc .vmem S128x1024 .bf16).view.read (Elt F) (xb m ρ c)) Finset.univ)
      = pay m ρ (nxt c) 10 false := by
  rw [show ((bL : Memref sig .tc .vmem S128x1024 .bf16).view.write (Elt F) fd ((xB : Memref sig .tc .vmem S128x1024 .bf16).view.read (Elt F) (xb m ρ c)) Finset.univ) = bot m ρ c from land_whole _ _ _]
  show _ = has bL (nxt c) fullShare (bot m ρ (prv (nxt c)))
  rw [prv_nxt]
theorem land11 (c : Dev nD) (fd) :
    has tR (prv c) fullShare ((tR : Memref sig .tc .vmem S128x1024 .bf16).view.write (Elt F) fd ((xT : Memref sig .tc .vmem S128x1024 .bf16).view.read (Elt F) (xb m ρ c)) Finset.univ)
      = pay m ρ (prv c) 11 false := by
  rw [show ((tR : Memref sig .tc .vmem S128x1024 .bf16).view.write (Elt F) fd ((xT : Memref sig .tc .vmem S128x1024 .bf16).view.read (Elt F) (xb m ρ c)) Finset.univ) = top m ρ c from land_whole _ _ _]
  show _ = has tR (prv c) fullShare (top m ρ (nxt (prv c)))
  rw [nxt_prv]
theorem land13 (c : Dev nD) (fd) :
    has (lo tO) (nxt c) fullShare ((lo tO : Memref sig .tc .vmem S64x1024 .bf16).view.write (Elt F) fd ((lo tL : Memref sig .tc .vmem S64x1024 .bf16).view.read (Elt F) (top m ρ (prv c))) Finset.univ)
      = pay m ρ (nxt c) 13 false := by
  show _ = has (lo tO) (nxt c) fullShare (top m ρ (nxt (nxt (nxt c))))
  rw [nxt3]
  unfold has
  refine pointsTo_congr fun i hi => ?_
  obtain ⟨x, -, rfl⟩ := Finset.mem_map.mp hi
  rw [View.write_emb_of_mem _ _ (Finset.mem_univ x)]
  rfl
theorem land14 (c : Dev nD) (fd) :
    has (hi tO) (nxt c) fullShare ((hi tO : Memref sig .tc .vmem S64x1024 .bf16).view.write (Elt F) fd ((hi tL : Memref sig .tc .vmem S64x1024 .bf16).view.read (Elt F) (top m ρ (prv c))) Finset.univ)
      = pay m ρ (nxt c) 14 false := by
  show _ = has (hi tO) (nxt c) fullShare (top m ρ (nxt (nxt (nxt c))))
  rw [nxt3]
  unfold has
  refine pointsTo_congr fun i hi => ?_
  obtain ⟨x, -, rfl⟩ := Finset.mem_map.mp hi
  rw [View.write_emb_of_mem _ _ (Finset.mem_univ x)]
  rfl
theorem land15 (c : Dev nD) (fd) :
    has (lo bO) (prv c) fullShare ((lo bO : Memref sig .tc .vmem S64x1024 .bf16).view.write (Elt F) fd ((lo bR : Memref sig .tc .vmem S64x1024 .bf16).view.read (Elt F) (bot m ρ (nxt c))) Finset.univ)
      = pay m ρ (prv c) 15 false := by
  show _ = has (lo bO) (prv c) fullShare (bot m ρ (nxt (nxt (prv c))))
  rw [nxt_prv]
  unfold has
  refine pointsTo_congr fun i hi => ?_
  obtain ⟨x, -, rfl⟩ := Finset.mem_map.mp hi
  rw [View.write_emb_of_mem _ _ (Finset.mem_univ x)]
  rfl
theorem land16 (c : Dev nD) (fd) :
    has (hi bO) (prv c) fullShare ((hi bO : Memref sig .tc .vmem S64x1024 .bf16).view.write (Elt F) fd ((hi bR : Memref sig .tc .vmem S64x1024 .bf16).view.read (Elt F) (bot m ρ (nxt c))) Finset.univ)
      = pay m ρ (prv c) 16 false := by
  show _ = has (hi bO) (prv c) fullShare (bot m ρ (nxt (nxt (prv c))))
  rw [nxt_prv]
  unfold has
  refine pointsTo_congr fun i hi => ?_
  obtain ⟨x, -, rfl⟩ := Finset.mem_map.mp hi
  rw [View.write_emb_of_mem _ _ (Finset.mem_univ x)]
  rfl

/-! ## The pieces of the result -/

abbrev pc2 (c : Dev nD) : View.Piece (Elt F) S1024x256 .f32 :=
  ⟨Rect.unit (s := S1024x256) (k0_off2 c 0#32) S128x256.size (k0_off2_inb c 0), k0_pay5 (top m ρ (prv c)) (wb m ρ c)⟩
abbrev pc3 (c : Dev nD) : View.Piece (Elt F) S1024x256 .f32 :=
  ⟨Rect.unit (s := S1024x256) (k0_off3 c 128#32) S128x256.size (k0_off3_inb c 1), k0_pay6 (bot m ρ (nxt c)) (wb m ρ c)⟩
abbrev pc4 (c : Dev nD) : View.Piece (Elt F) S1024x256 .f32 :=
  ⟨Rect.unit (s := S1024x256) (k0_off2 c 128#32) S128x256.size (k0_off2_inb c 1), k0_pay7 (bot m ρ (prv c)) (wb m ρ c)⟩
abbrev pc5 (c : Dev nD) : View.Piece (Elt F) S1024x256 .f32 :=
  ⟨Rect.unit (s := S1024x256) (k0_off3 c 0#32) S128x256.size (k0_off3_inb c 0), k0_pay8 (top m ρ (nxt c)) (wb m ρ c)⟩
abbrev pc6 (c : Dev nD) : View.Piece (Elt F) S1024x256 .f32 :=
  ⟨Rect.unit (s := S1024x256) (k0_off4 c 0#32) S64x256.size (k0_off4_inb c 0), k0_pay9 ((lo tO : Memref sig .tc .vmem S64x1024 .bf16).view.read (Elt F) (top m ρ (nxt (nxt c)))) (wb m ρ c)⟩
abbrev pc7 (c : Dev nD) : View.Piece (Elt F) S1024x256 .f32 :=
  ⟨Rect.unit (s := S1024x256) (k0_off4 c 128#32) S64x256.size (k0_off4_inb c 2), k0_pay10 ((lo bO : Memref sig .tc .vmem S64x1024 .bf16).view.read (Elt F) (bot m ρ (nxt (nxt c)))) (wb m ρ c)⟩
abbrev pc8 (c : Dev nD) : View.Piece (Elt F) S1024x256 .f32 :=
  ⟨Rect.unit (s := S1024x256) (k0_off4 c 64#32) S64x256.size (k0_off4_inb c 1), k0_pay11 ((hi tO : Memref sig .tc .vmem S64x1024 .bf16).view.read (Elt F) (top m ρ (nxt (nxt c)))) (wb m ρ c)⟩
abbrev pc9 (c : Dev nD) : View.Piece (Elt F) S1024x256 .f32 :=
  ⟨Rect.unit (s := S1024x256) (k0_off4 c 192#32) S64x256.size (k0_off4_inb c 3), k0_pay12 ((hi bO : Memref sig .tc .vmem S64x1024 .bf16).view.read (Elt F) (bot m ρ (nxt (nxt c)))) (wb m ρ c)⟩

abbrev at3 := k0_part3 (F := F) xM (Memref.isWhole_whole _) wM (Memref.isWhole_whole _) oM (Memref.isWhole_whole _) xbM (Memref.isWhole_whole _) wbM (Memref.isWhole_whole _)
  tL (Memref.isWhole_whole _) bL (Memref.isWhole_whole _) tR (Memref.isWhole_whole _) bR (Memref.isWhole_whole _) tO (Memref.isWhole_whole _) bO (Memref.isWhole_whole _) cc0_scratch8 cc0_scratch9
abbrev at4 := k0_part4 (F := F) xM (Memref.isWhole_whole _) wM (Memref.isWhole_whole _) oM (Memref.isWhole_whole _) xbM (Memref.isWhole_whole _) wbM (Memref.isWhole_whole _)
  tL (Memref.isWhole_whole _) bL (Memref.isWhole_whole _) tR (Memref.isWhole_whole _) bR (Memref.isWhole_whole _) tO (Memref.isWhole_whole _) bO (Memref.isWhole_whole _) cc0_scratch8 cc0_scratch9
abbrev at5 := k0_part5 (F := F) xM (Memref.isWhole_whole _) wM (Memref.isWhole_whole _) oM (Memref.isWhole_whole _) xbM (Memref.isWhole_whole _) wbM (Memref.isWhole_whole _)
  tL (Memref.isWhole_whole _) bL (Memref.isWhole_whole _) tR (Memref.isWhole_whole _) bR (Memref.isWhole_whole _) tO (Memref.isWhole_whole _) bO (Memref.isWhole_whole _) cc0_scratch8 cc0_scratch9

set_option maxHeartbeats 3200000 in
/-- Part 3: the other two transfers of the first hop, the product with the device's own block, the left neighbour's top half and its first piece sent on. -/
theorem part3 (c : Dev nD) (v2 v13 v24 : BitVec 32) (g) (Kt) :
    iprop((known m ρ K ∗ levAts L lv ∗ ow c ((payList c).drop 4) ∗ has xbM c qCore (xb m ρ c) ∗ has xT c qSnd (xb m ρ c) ∗ has xB c qSnd (xb m ρ c) ∗ has wbM c fullShare (wb m ρ c) ∗ has oM c fullShare g ∗ (∃ f, has bL (nxt c) fullShare f) ∗ (∃ f, has tR (prv c) fullShare f) ∗ (∃ f, has tO (nxt c) fullShare f) ∗ tok (2, c) false ∗ tok (10, nxt c) false ∗ tok (3, c) false ∗ tok (11, prv c) false ∗ due c 9 ∗ pos c 9 ∗ tok (5, c) false ∗ tok (13, nxt c) false)
      ∗ ((ow c ((payList c).drop 7) ∗ done c 9 ∗ due c 2 ∗ due c 3 ∗ due c 5 ∗ has xbM c qCore (xb m ρ c) ∗ has wbM c fullShare (wb m ρ c) ∗ out c g [pc1 m ρ c] ∗ has tL c qCore (top m ρ (prv c)) ∗ has (hi tL) c qFwd (top m ρ (prv c)) ∗ (∃ f, has (hi tO) (nxt c) fullShare f)) -∗ Kt ⟨⟩))
      ⊢ wp frame (wpE (defs₀ (F := F)) 𝒱₀ (c : Thread nD τ) none) Set.univ (at3 c v2 v13 v24) Kt := by
  unfold at3
  simp only [k0_part3_eq_skeleton]
  unfold k0_part3_skel
  simp only [semSignalWord, semWaitWord, Prog.lift, Prog.bind_op, Prog.bind_ret, Prog.pure_eq_ret]
  iintro ⟨⟨#HK, #HL, Ho, HxC, HxT, HxB, Hwb, Hout, HbL, HtR, HtO, Ht2, Ht10, Ht3, Ht11, Hd9, Hp9, Ht5, Ht13⟩, Hk⟩
  iapply (wp_send m ρ K c (nxt c) _ (dev5_eq c) xB bL 2 10 rfl rfl ((payList c).drop 5) qSnd (xb m ρ c) rfl rfl (BI.Entails.refl _)
    (fun fd => Entails.of_eq (land10 m ρ c fd)) rfl rfl) $$ [HxB HbL Ho Ht2 Ht10]
  · isplitr; · iexact HK
    isplitl [HxB]; · iexact HxB
    isplitl [HbL]; · iexact HbL
    isplitl [Ho]; · iexact Ho
    isplitl [Ht2]; · iexact Ht2
    iexact Ht10
  iintro ⟨Hd2, Ho⟩
  iapply (wp_send m ρ K c (prv c) _ (dev6_eq c) xT tR 3 11 rfl rfl ((payList c).drop 6) qSnd (xb m ρ c) rfl rfl (BI.Entails.refl _)
    (fun fd => Entails.of_eq (land11 m ρ c fd)) rfl rfl) $$ [HxT HtR Ho Ht3 Ht11]
  · isplitr; · iexact HK
    isplitl [HxT]; · iexact HxT
    isplitl [HtR]; · iexact HtR
    isplitl [Ho]; · iexact Ho
    isplitl [Ht3]; · iexact Ht3
    iexact Ht11
  iintro ⟨Hd3, Ho⟩
  iapply (wp_ld c xbM rX.toLoadRect qCore (xb m ρ c)) $$ HxC
  iintro HxC
  rw [rd_xb]
  iapply (wp_ld c wbM rW.toLoadRect fullShare (wb m ρ c)) $$ Hwb
  iintro Hwb
  rw [rd_wb]
  iapply (wp_put₀ c oM (pc1 m ρ c).1 (pc1 m ρ c).2 g) $$ Hout
  iintro Hout
  iapply (wp_land m ρ K c 9 ((payList c).drop 6) rfl tL rfl rfl rfl) $$ [Hd9 Ho Hp9]
  · isplitr; · iexact HK
    isplitr; · iexact HL
    isplitl [Hd9]; · iexact Hd9
    isplitl [Ho]; · iexact Ho
    iexact Hp9
  iintro ⟨Ho, Hz9, Hpay⟩
  ihave HtL := (Entails.of_eq ((pay_one m ρ c 9 rfl).trans (show pay m ρ c 9 false = has tL c fullShare (top m ρ (prv c)) from rfl))) $$ Hpay
  ihave HtL := (Entails.of_eq (fwd_split tL c (top m ρ (prv c)))) $$ HtL
  icases HtL with ⟨HtLc, HtLl, HtLh⟩
  icases HtO with ⟨%ft, HtO⟩
  ihave HtO := (Entails.of_eq (half_split tO (nxt c) fullShare ft)) $$ HtO
  icases HtO with ⟨HtOl, HtOh⟩
  ihave HtOl : iprop(∃ f, has (lo tO) (nxt c) fullShare f) $$ [HtOl]
  · iexists ft; iexact HtOl
  ihave HtOh : iprop(∃ f, has (hi tO) (nxt c) fullShare f) $$ [HtOh]
  · iexists ft; iexact HtOh
  iapply (wp_send m ρ K c (nxt c) _ (dev7_eq c) (lo tL) (lo tO) 5 13 rfl rfl ((payList c).drop 7) qFwd (top m ρ (prv c)) rfl rfl (BI.Entails.refl _)
    (fun fd => Entails.of_eq (land13 m ρ c fd)) rfl rfl) $$ [HtLl HtOl Ho Ht5 Ht13]
  · isplitr; · iexact HK
    isplitl [HtLl]; · iexact HtLl
    isplitl [HtOl]; · iexact HtOl
    isplitl [Ho]; · iexact Ho
    isplitl [Ht5]; · iexact Ht5
    iexact Ht13
  iintro ⟨Hd5, Ho⟩
  rw [wp_ret]
  imodintro
  iapply Hk
  isplitl [Ho]; · iexact Ho
  isplitl [Hz9]; · iexact Hz9
  isplitl [Hd2]; · iexact Hd2
  isplitl [Hd3]; · iexact Hd3
  isplitl [Hd5]; · iexact Hd5
  isplitl [HxC]; · iexact HxC
  isplitl [Hwb]; · iexact Hwb
  isplitl [Hout]; · iexact Hout
  isplitl [HtLc]; · iexact HtLc
  isplitl [HtLh]; · iexact HtLh
  iexact HtOh

set_option maxHeartbeats 3200000 in
/-- Part 4: the second piece of that half, the right neighbour's bottom half and its first piece. -/
theorem part4 (c : Dev nD) (v13 v24 : BitVec 32) (Kt) :
    iprop((known m ρ K ∗ levAts L lv ∗ ow c ((payList c).drop 7) ∗ has (hi tL) c qFwd (top m ρ (prv c)) ∗ (∃ f, has (hi tO) (nxt c) fullShare f) ∗ (∃ f, has bO (prv c) fullShare f) ∗ tok (6, c) false ∗ tok (14, nxt c) false ∗ due c 12 ∗ pos c 12 ∗ tok (7, c) false ∗ tok (15, prv c) false)
      ∗ ((ow c ((payList c).drop 9) ∗ done c 12 ∗ due c 6 ∗ due c 7 ∗ has bR c qCore (bot m ρ (nxt c)) ∗ has (hi bR) c qFwd (bot m ρ (nxt c)) ∗ (∃ f, has (hi bO) (prv c) fullShare f)) -∗ Kt ⟨⟩))
      ⊢ wp frame (wpE (defs₀ (F := F)) 𝒱₀ (c : Thread nD τ) none) Set.univ (at4 c v13 v24) Kt := by
  unfold at4
  simp only [k0_part4_eq_skeleton]
  unfold k0_part4_skel
  simp only [semSignalWord, semWaitWord, Prog.lift, Prog.bind_op, Prog.bind_ret, Prog.pure_eq_ret]
  iintro ⟨⟨#HK, #HL, Ho, HtLh, HtOh, HbO, Ht6, Ht14, Hd12, Hp12, Ht7, Ht15⟩, Hk⟩
  iapply (wp_send m ρ K c (nxt c) _ (dev8_eq c) (hi tL) (hi tO) 6 14 rfl rfl ((payList c).drop 8) qFwd (top m ρ (prv c)) rfl rfl (BI.Entails.refl _)
    (fun fd => Entails.of_eq (land14 m ρ c fd)) rfl rfl) $$ [HtLh HtOh Ho Ht6 Ht14]
  · isplitr; · iexact HK
    isplitl [HtLh]; · iexact HtLh
    isplitl [HtOh]; · iexact HtOh
    isplitl [Ho]; · iexact Ho
    isplitl [Ht6]; · iexact Ht6
    iexact Ht14
  iintro ⟨Hd6, Ho⟩
  iapply (wp_land m ρ K c 12 ((payList c).drop 8) rfl bR rfl rfl rfl) $$ [Hd12 Ho Hp12]
  · isplitr; · iexact HK
    isplitr; · iexact HL
    isplitl [Hd12]; · iexact Hd12
    isplitl [Ho]; · iexact Ho
    iexact Hp12
  iintro ⟨Ho, Hz12, Hpay⟩
  ihave HbR := (Entails.of_eq ((pay_one m ρ c 12 rfl).trans (show pay m ρ c 12 false = has bR c fullShare (bot m ρ (nxt c)) from rfl))) $$ Hpay
  ihave HbR := (Entails.of_eq (fwd_split bR c (bot m ρ (nxt c)))) $$ HbR
  icases HbR with ⟨HbRc, HbRl, HbRh⟩
  icases HbO with ⟨%ft, HbO⟩
  ihave HbO := (Entails.of_eq (half_split bO (prv c) fullShare ft)) $$ HbO
  icases HbO with ⟨HbOl, HbOh⟩
  ihave HbOl : iprop(∃ f, has (lo bO) (prv c) fullShare f) $$ [HbOl]
  · iexists ft; iexact HbOl
  ihave HbOh : iprop(∃ f, has (hi bO) (prv c) fullShare f) $$ [HbOh]
  · iexists ft; iexact HbOh
  iapply (wp_send m ρ K c (prv c) _ (dev9_eq c) (lo bR) (lo bO) 7 15 rfl rfl ((payList c).drop 9) qFwd (bot m ρ (nxt c)) rfl rfl (BI.Entails.refl _)
    (fun fd => Entails.of_eq (land15 m ρ c fd)) rfl rfl) $$ [HbRl HbOl Ho Ht7 Ht15]
  · isplitr; · iexact HK
    isplitl [HbRl]; · iexact HbRl
    isplitl [HbOl]; · iexact HbOl
    isplitl [Ho]; · iexact Ho
    isplitl [Ht7]; · iexact Ht7
    iexact Ht15
  iintro ⟨Hd7, Ho⟩
  rw [wp_ret]
  imodintro
  iapply Hk
  isplitl [Ho]; · iexact Ho
  isplitl [Hz12]; · iexact Hz12
  isplitl [Hd6]; · iexact Hd6
  isplitl [Hd7]; · iexact Hd7
  isplitl [HbRc]; · iexact HbRc
  isplitl [HbRh]; · iexact HbRh
  iexact HbOh

set_option maxHeartbeats 3200000 in
/-- Part 5: the last piece sent on, and the product with the left neighbour's top half. -/
theorem part5 (c : Dev nD) (v2 : BitVec 32) (g) (Kt) :
    iprop((known m ρ K ∗ levAts L lv ∗ ow c ((payList c).drop 9) ∗ has (hi bR) c qFwd (bot m ρ (nxt c)) ∗ (∃ f, has (hi bO) (prv c) fullShare f) ∗ tok (8, c) false ∗ tok (16, prv c) false ∗ has tL c qCore (top m ρ (prv c)) ∗ has bR c qCore (bot m ρ (nxt c)) ∗ has wbM c fullShare (wb m ρ c) ∗ out c g [pc1 m ρ c])
      ∗ (∀ v, (ow c [] ∗ due c 8 ∗ has tL c qCore (top m ρ (prv c)) ∗ has bR c qCore (bot m ρ (nxt c)) ∗ has wbM c fullShare (wb m ρ c) ∗ out c g [pc2 m ρ c, pc1 m ρ c]) -∗ Kt ⟨v, bot m ρ (nxt c), wb m ρ c⟩))
      ⊢ wp frame (wpE (defs₀ (F := F)) 𝒱₀ (c : Thread nD τ) none) Set.univ (at5 c v2) Kt := by
  unfold at5
  simp only [k0_part5_eq_skeleton]
  unfold k0_part5_skel
  simp only [semSignalWord, semWaitWord, Prog.lift, Prog.bind_op, Prog.bind_ret, Prog.pure_eq_ret]
  iintro ⟨⟨#HK, #HL, Ho, HbRh, HbOh, Ht8, Ht16, HtLc, HbRc, Hwb, Hout⟩, Hk⟩
  iapply (wp_send m ρ K c (prv c) _ (dev10_eq c) (hi bR) (hi bO) 8 16 rfl rfl [] qFwd (bot m ρ (nxt c)) rfl rfl (BI.Entails.refl _)
    (fun fd => Entails.of_eq (land16 m ρ c fd)) rfl rfl) $$ [HbRh HbOh Ho Ht8 Ht16]
  · isplitr; · iexact HK
    isplitl [HbRh]; · iexact HbRh
    isplitl [HbOh]; · iexact HbOh
    isplitl [Ho]; · iexact Ho
    isplitl [Ht8]; · iexact Ht8
    iexact Ht16
  iintro ⟨Hd8, Ho⟩
  iapply (wp_ld c tL rH.toLoadRect qCore (top m ρ (prv c))) $$ HtLc
  iintro HtLc
  rw [rd_tL]
  iapply (wp_ld c wbM rW.toLoadRect fullShare (wb m ρ c)) $$ Hwb
  iintro Hwb
  rw [rd_wb]
  iapply (wp_put c oM (pc2 m ρ c).1 (pc2 m ρ c).2 g [pc1 m ρ c]) $$ Hout
  iintro Hout
  iapply (wp_ld c bR rH.toLoadRect qCore (bot m ρ (nxt c))) $$ HbRc
  iintro HbRc
  rw [rd_bR]
  iapply (wp_ld c wbM rW.toLoadRect fullShare (wb m ρ c)) $$ Hwb
  iintro Hwb
  rw [rd_wb]
  rw [wp_ret]
  imodintro
  iapply Hk
  isplitl [Ho]; · iexact Ho
  isplitl [Hd8]; · iexact Hd8
  isplitl [HtLc]; · iexact HtLc
  isplitl [HbRc]; · iexact HbRc
  isplitl [Hwb]; · iexact Hwb
  iexact Hout

end Cert.RingProof

end
-- ==== Proof.BodyC.lean ====
/- The kernel body at its end: the products with the blocks that arrive, and the waits for the device's own transfers. -/
module

public import proofs.«01_k».proof.Proof.BodyB

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)
variable (K : Fin 17 × Dev nD → ℕ)

abbrev at6 := k0_part6 (F := F) xM (Memref.isWhole_whole _) wM (Memref.isWhole_whole _) oM (Memref.isWhole_whole _) xbM (Memref.isWhole_whole _) wbM (Memref.isWhole_whole _)
  tL (Memref.isWhole_whole _) bL (Memref.isWhole_whole _) tR (Memref.isWhole_whole _) bR (Memref.isWhole_whole _) tO (Memref.isWhole_whole _) bO (Memref.isWhole_whole _) cc0_scratch8 cc0_scratch9
abbrev at7 := k0_part7 (F := F) xM (Memref.isWhole_whole _) wM (Memref.isWhole_whole _) oM (Memref.isWhole_whole _) xbM (Memref.isWhole_whole _) wbM (Memref.isWhole_whole _)
  tL (Memref.isWhole_whole _) bL (Memref.isWhole_whole _) tR (Memref.isWhole_whole _) bR (Memref.isWhole_whole _) tO (Memref.isWhole_whole _) bO (Memref.isWhole_whole _) cc0_scratch8 cc0_scratch9
abbrev at8 := k0_part8 (F := F) xM (Memref.isWhole_whole _) wM (Memref.isWhole_whole _) oM (Memref.isWhole_whole _) xbM (Memref.isWhole_whole _) wbM (Memref.isWhole_whole _)
  tL (Memref.isWhole_whole _) bL (Memref.isWhole_whole _) tR (Memref.isWhole_whole _) bR (Memref.isWhole_whole _) tO (Memref.isWhole_whole _) bO (Memref.isWhole_whole _) cc0_scratch8 cc0_scratch9
abbrev at9 := k0_part9 (F := F) xM (Memref.isWhole_whole _) wM (Memref.isWhole_whole _) oM (Memref.isWhole_whole _) xbM (Memref.isWhole_whole _) wbM (Memref.isWhole_whole _)
  tL (Memref.isWhole_whole _) bL (Memref.isWhole_whole _) tR (Memref.isWhole_whole _) bR (Memref.isWhole_whole _) tO (Memref.isWhole_whole _) bO (Memref.isWhole_whole _) cc0_scratch8 cc0_scratch9
abbrev at10 := k0_part10 (F := F) xM (Memref.isWhole_whole _) wM (Memref.isWhole_whole _) oM (Memref.isWhole_whole _) xbM (Memref.isWhole_whole _) wbM (Memref.isWhole_whole _)
  tL (Memref.isWhole_whole _) bL (Memref.isWhole_whole _) tR (Memref.isWhole_whole _) bR (Memref.isWhole_whole _) tO (Memref.isWhole_whole _) bO (Memref.isWhole_whole _) cc0_scratch8 cc0_scratch9

set_option maxHeartbeats 3200000 in
/-- Part 6: the product with the right neighbour's bottom half, and the waits for the two other halves of the first hop. -/
theorem part6 (c : Dev nD) (v2 v13 v24 v146 : BitVec 32) (g) (Kt) :
    iprop((known m ρ K ∗ levAts L lv ∗ ow c [] ∗ has wbM c fullShare (wb m ρ c) ∗ out c g [pc2 m ρ c, pc1 m ρ c] ∗ due c 10 ∗ pos c 10 ∗ due c 11 ∗ pos c 11)
      ∗ (∀ v, (ow c [] ∗ has wbM c fullShare (wb m ρ c) ∗ out c g [pc3 m ρ c, pc2 m ρ c, pc1 m ρ c] ∗ done c 10 ∗ done c 11 ∗ has bL c fullShare (bot m ρ (prv c)) ∗ has tR c fullShare (top m ρ (nxt c))) -∗ Kt ⟨v, (pc4 m ρ c).2⟩))
      ⊢ wp frame (wpE (defs₀ (F := F)) 𝒱₀ (c : Thread nD τ) none) Set.univ (at6 c v2 v13 v24 v146 (bot m ρ (nxt c)) (wb m ρ c)) Kt := by
  unfold at6
  simp only [k0_part6_eq_skeleton]
  unfold k0_part6_skel
  simp only [semSignalWord, semWaitWord, Prog.lift, Prog.bind_op, Prog.bind_ret, Prog.pure_eq_ret]
  iintro ⟨⟨#HK, #HL, Ho, Hwb, Hout, Hd10, Hp10, Hd11, Hp11⟩, Hk⟩
  iapply (wp_put c oM (pc3 m ρ c).1 (pc3 m ρ c).2 g [pc2 m ρ c, pc1 m ρ c]) $$ Hout
  iintro Hout
  iapply (wp_land m ρ K c 10 [] rfl bL rfl rfl rfl) $$ [Hd10 Ho Hp10]
  · isplitr; · iexact HK
    isplitr; · iexact HL
    isplitl [Hd10]; · iexact Hd10
    isplitl [Ho]; · iexact Ho
    iexact Hp10
  iintro ⟨Ho, Hz10, Hpay⟩
  ihave HbL := (Entails.of_eq ((pay_one m ρ c 10 rfl).trans (show pay m ρ c 10 false = has bL c fullShare (bot m ρ (prv c)) from rfl))) $$ Hpay
  iapply (wp_land m ρ K c 11 [] rfl tR rfl rfl rfl) $$ [Hd11 Ho Hp11]
  · isplitr; · iexact HK
    isplitr; · iexact HL
    isplitl [Hd11]; · iexact Hd11
    isplitl [Ho]; · iexact Ho
    iexact Hp11
  iintro ⟨Ho, Hz11, Hpay⟩
  ihave HtR := (Entails.of_eq ((pay_one m ρ c 11 rfl).trans (show pay m ρ c 11 false = has tR c fullShare (top m ρ (nxt c)) from rfl))) $$ Hpay
  iapply (wp_ld c bL rH.toLoadRect fullShare (bot m ρ (prv c))) $$ HbL
  iintro HbL
  rw [rd_bL]
  iapply (wp_ld c wbM rW.toLoadRect fullShare (wb m ρ c)) $$ Hwb
  iintro Hwb
  rw [rd_wb]
  rw [wp_ret]
  imodintro
  iapply Hk
  isplitl [Ho]; · iexact Ho
  isplitl [Hwb]; · iexact Hwb
  isplitl [Hout]; · iexact Hout
  isplitl [Hz10]; · iexact Hz10
  isplitl [Hz11]; · iexact Hz11
  isplitl [HbL]; · iexact HbL
  iexact HtR

set_option maxHeartbeats 3200000 in
/-- Part 7: the products with the left neighbour's bottom half and the right neighbour's top half. -/
theorem part7 (c : Dev nD) (v2 v174 : BitVec 32) (g) (Kt) :
    iprop((known m ρ K ∗ levAts L lv ∗ has wbM c fullShare (wb m ρ c) ∗ out c g [pc3 m ρ c, pc2 m ρ c, pc1 m ρ c] ∗ has tR c fullShare (top m ρ (nxt c)))
      ∗ (∀ v, (has wbM c fullShare (wb m ρ c) ∗ out c g [pc5 m ρ c, pc4 m ρ c, pc3 m ρ c, pc2 m ρ c, pc1 m ρ c] ∗ has tR c fullShare (top m ρ (nxt c))) -∗ Kt v))
      ⊢ wp frame (wpE (defs₀ (F := F)) 𝒱₀ (c : Thread nD τ) none) Set.univ (at7 c v2 v174 (pc4 m ρ c).2) Kt := by
  unfold at7
  simp only [k0_part7_eq_skeleton]
  unfold k0_part7_skel
  simp only [semSignalWord, semWaitWord, Prog.lift, Prog.bind_op, Prog.bind_ret, Prog.pure_eq_ret]
  iintro ⟨⟨#HK, #HL, Hwb, Hout, HtR⟩, Hk⟩
  iapply (wp_put c oM (pc4 m ρ c).1 (pc4 m ρ c).2 g [pc3 m ρ c, pc2 m ρ c, pc1 m ρ c]) $$ Hout
  iintro Hout
  iapply (wp_ld c tR rH.toLoadRect fullShare (top m ρ (nxt c))) $$ HtR
  iintro HtR
  rw [rd_tR]
  iapply (wp_ld c wbM rW.toLoadRect fullShare (wb m ρ c)) $$ Hwb
  iintro Hwb
  rw [rd_wb]
  iapply (wp_put c oM (pc5 m ρ c).1 (pc5 m ρ c).2 g [pc4 m ρ c, pc3 m ρ c, pc2 m ρ c, pc1 m ρ c]) $$ Hout
  iintro Hout
  rw [wp_ret]
  imodintro
  iapply Hk
  isplitl [Hwb]; · iexact Hwb
  isplitl [Hout]; · iexact Hout
  iexact HtR

set_option maxHeartbeats 3200000 in
/-- Part 8: the first pieces of the opposite device's two halves. -/
theorem part8 (c : Dev nD) (v13 v24 v210 : BitVec 32) (g) (Kt) :
    iprop((known m ρ K ∗ levAts L lv ∗ ow c [] ∗ has wbM c fullShare (wb m ρ c) ∗ out c g [pc5 m ρ c, pc4 m ρ c, pc3 m ρ c, pc2 m ρ c, pc1 m ρ c] ∗ due c 13 ∗ pos c 13 ∗ due c 15 ∗ pos c 15)
      ∗ ((ow c [] ∗ has wbM c fullShare (wb m ρ c) ∗ out c g [pc6 m ρ c, pc5 m ρ c, pc4 m ρ c, pc3 m ρ c, pc2 m ρ c, pc1 m ρ c] ∗ done c 13 ∗ done c 15 ∗ has (lo tO) c fullShare (top m ρ (nxt (nxt c))) ∗ has (lo bO) c fullShare (bot m ρ (nxt (nxt c)))) -∗ Kt (pc7 m ρ c).2))
      ⊢ wp frame (wpE (defs₀ (F := F)) 𝒱₀ (c : Thread nD τ) none) Set.univ (at8 c v13 v24 v210) Kt := by
  unfold at8
  simp only [k0_part8_eq_skeleton]
  unfold k0_part8_skel
  simp only [semSignalWord, semWaitWord, Prog.lift, Prog.bind_op, Prog.bind_ret, Prog.pure_eq_ret]
  iintro ⟨⟨#HK, #HL, Ho, Hwb, Hout, Hd13, Hp13, Hd15, Hp15⟩, Hk⟩
  iapply (wp_land m ρ K c 13 [] rfl (lo tO) rfl rfl rfl) $$ [Hd13 Ho Hp13]
  · isplitr; · iexact HK
    isplitr; · iexact HL
    isplitl [Hd13]; · iexact Hd13
    isplitl [Ho]; · iexact Ho
    iexact Hp13
  iintro ⟨Ho, Hz13, Hpay⟩
  ihave HtOl := (Entails.of_eq ((pay_one m ρ c 13 rfl).trans (show pay m ρ c 13 false = has (lo tO) c fullShare (top m ρ (nxt (nxt c))) from rfl))) $$ Hpay
  iapply (wp_ld_part c tO rLo (fun _ => rfl) fullShare (top m ρ (nxt (nxt c)))) $$ HtOl
  iintro HtOl
  iapply (wp_ld c wbM rW.toLoadRect fullShare (wb m ρ c)) $$ Hwb
  iintro Hwb
  rw [rd_wb]
  iapply (wp_put c oM (pc6 m ρ c).1 (pc6 m ρ c).2 g [pc5 m ρ c, pc4 m ρ c, pc3 m ρ c, pc2 m ρ c, pc1 m ρ c]) $$ Hout
  iintro Hout
  iapply (wp_land m ρ K c 15 [] rfl (lo bO) rfl rfl rfl) $$ [Hd15 Ho Hp15]
  · isplitr; · iexact HK
    isplitr; · iexact HL
    isplitl [Hd15]; · iexact Hd15
    isplitl [Ho]; · iexact Ho
    iexact Hp15
  iintro ⟨Ho, Hz15, Hpay⟩
  ihave HbOl := (Entails.of_eq ((pay_one m ρ c 15 rfl).trans (show pay m ρ c 15 false = has (lo bO) c fullShare (bot m ρ (nxt (nxt c))) from rfl))) $$ Hpay
  iapply (wp_ld_part c bO rLo (fun _ => rfl) fullShare (bot m ρ (nxt (nxt c)))) $$ HbOl
  iintro HbOl
  iapply (wp_ld c wbM rW.toLoadRect fullShare (wb m ρ c)) $$ Hwb
  iintro Hwb
  rw [rd_wb]
  rw [wp_ret]
  imodintro
  iapply Hk
  isplitl [Ho]; · iexact Ho
  isplitl [Hwb]; · iexact Hwb
  isplitl [Hout]; · iexact Hout
  isplitl [Hz13]; · iexact Hz13
  isplitl [Hz15]; · iexact Hz15
  isplitl [HtOl]; · iexact HtOl
  iexact HbOl

set_option maxHeartbeats 3200000 in
/-- Part 9: their second pieces. -/
theorem part9 (c : Dev nD) (v13 v24 v210 : BitVec 32) (g) (Kt) :
    iprop((known m ρ K ∗ levAts L lv ∗ ow c [] ∗ has wbM c fullShare (wb m ρ c) ∗ out c g [pc6 m ρ c, pc5 m ρ c, pc4 m ρ c, pc3 m ρ c, pc2 m ρ c, pc1 m ρ c] ∗ due c 14 ∗ pos c 14 ∗ due c 16 ∗ pos c 16)
      ∗ (∀ v, (ow c [] ∗ has wbM c fullShare (wb m ρ c) ∗ out c g [pc8 m ρ c, pc7 m ρ c, pc6 m ρ c, pc5 m ρ c, pc4 m ρ c, pc3 m ρ c, pc2 m ρ c, pc1 m ρ c] ∗ done c 14 ∗ done c 16 ∗ has (hi tO) c fullShare (top m ρ (nxt (nxt c))) ∗ has (hi bO) c fullShare (bot m ρ (nxt (nxt c)))) -∗ Kt ⟨(pc9 m ρ c).2, v⟩))
      ⊢ wp frame (wpE (defs₀ (F := F)) 𝒱₀ (c : Thread nD τ) none) Set.univ (at9 c v13 v24 v210 (pc7 m ρ c).2) Kt := by
  unfold at9
  simp only [k0_part9_eq_skeleton]
  unfold k0_part9_skel
  simp only [semSignalWord, semWaitWord, Prog.lift, Prog.bind_op, Prog.bind_ret, Prog.pure_eq_ret]
  iintro ⟨⟨#HK, #HL, Ho, Hwb, Hout, Hd14, Hp14, Hd16, Hp16⟩, Hk⟩
  iapply (wp_put c oM (pc7 m ρ c).1 (pc7 m ρ c).2 g [pc6 m ρ c, pc5 m ρ c, pc4 m ρ c, pc3 m ρ c, pc2 m ρ c, pc1 m ρ c]) $$ Hout
  iintro Hout
  iapply (wp_land m ρ K c 14 [] rfl (hi tO) rfl rfl rfl) $$ [Hd14 Ho Hp14]
  · isplitr; · iexact HK
    isplitr; · iexact HL
    isplitl [Hd14]; · iexact Hd14
    isplitl [Ho]; · iexact Ho
    iexact Hp14
  iintro ⟨Ho, Hz14, Hpay⟩
  ihave HtOh := (Entails.of_eq ((pay_one m ρ c 14 rfl).trans (show pay m ρ c 14 false = has (hi tO) c fullShare (top m ρ (nxt (nxt c))) from rfl))) $$ Hpay
  iapply (wp_ld_part c tO rHi (fun _ => rfl) fullShare (top m ρ (nxt (nxt c)))) $$ HtOh
  iintro HtOh
  iapply (wp_ld c wbM rW.toLoadRect fullShare (wb m ρ c)) $$ Hwb
  iintro Hwb
  rw [rd_wb]
  iapply (wp_put c oM (pc8 m ρ c).1 (pc8 m ρ c).2 g [pc7 m ρ c, pc6 m ρ c, pc5 m ρ c, pc4 m ρ c, pc3 m ρ c, pc2 m ρ c, pc1 m ρ c]) $$ Hout
  iintro Hout
  iapply (wp_land m ρ K c 16 [] rfl (hi bO) rfl rfl rfl) $$ [Hd16 Ho Hp16]
  · isplitr; · iexact HK
    isplitr; · iexact HL
    isplitl [Hd16]; · iexact Hd16
    isplitl [Ho]; · iexact Ho
    iexact Hp16
  iintro ⟨Ho, Hz16, Hpay⟩
  ihave HbOh := (Entails.of_eq ((pay_one m ρ c 16 rfl).trans (show pay m ρ c 16 false = has (hi bO) c fullShare (bot m ρ (nxt (nxt c))) from rfl))) $$ Hpay
  iapply (wp_ld_part c bO rHi (fun _ => rfl) fullShare (bot m ρ (nxt (nxt c)))) $$ HbOh
  iintro HbOh
  iapply (wp_ld c wbM rW.toLoadRect fullShare (wb m ρ c)) $$ Hwb
  iintro Hwb
  rw [rd_wb]
  rw [wp_ret]
  imodintro
  iapply Hk
  isplitl [Ho]; · iexact Ho
  isplitl [Hwb]; · iexact Hwb
  isplitl [Hout]; · iexact Hout
  isplitl [Hz14]; · iexact Hz14
  isplitl [Hz16]; · iexact Hz16
  isplitl [HtOh]; · iexact HtOh
  iexact HbOh

set_option maxHeartbeats 3200000 in
/-- Part 10: the last store, and the waits for the first five of the device's own transfers. -/
theorem part10 (c : Dev nD) (v260 : BitVec 32) (g) (Kt) :
    iprop((known m ρ K ∗ levAts L lv ∗ ow c [] ∗ out c g [pc8 m ρ c, pc7 m ρ c, pc6 m ρ c, pc5 m ρ c, pc4 m ρ c, pc3 m ρ c, pc2 m ρ c, pc1 m ρ c] ∗ due c 1 ∗ pos c 1 ∗ due c 2 ∗ pos c 2 ∗ due c 3 ∗ pos c 3 ∗ due c 4 ∗ pos c 4 ∗ due c 5 ∗ pos c 5)
      ∗ ((ow c [] ∗ out c g [pc9 m ρ c, pc8 m ρ c, pc7 m ρ c, pc6 m ρ c, pc5 m ρ c, pc4 m ρ c, pc3 m ρ c, pc2 m ρ c, pc1 m ρ c] ∗ done c 1 ∗ done c 2 ∗ done c 3 ∗ done c 4 ∗ done c 5 ∗ has xT c qFst (xb m ρ c) ∗ has xB c qSnd (xb m ρ c) ∗ has xT c qSnd (xb m ρ c) ∗ has xB c qFst (xb m ρ c) ∗ has (lo tL) c qFwd (top m ρ (prv c))) -∗ Kt ⟨⟩))
      ⊢ wp frame (wpE (defs₀ (F := F)) 𝒱₀ (c : Thread nD τ) none) Set.univ (at10 c (pc9 m ρ c).2 v260) Kt := by
  unfold at10
  simp only [k0_part10_eq_skeleton]
  unfold k0_part10_skel
  simp only [semSignalWord, semWaitWord, Prog.lift, Prog.bind_op, Prog.bind_ret, Prog.pure_eq_ret]
  iintro ⟨⟨#HK, #HL, Ho, Hout, Hd1, Hp1, Hd2, Hp2, Hd3, Hp3, Hd4, Hp4, Hd5, Hp5⟩, Hk⟩
  iapply (wp_put c oM (pc9 m ρ c).1 (pc9 m ρ c).2 g [pc8 m ρ c, pc7 m ρ c, pc6 m ρ c, pc5 m ρ c, pc4 m ρ c, pc3 m ρ c, pc2 m ρ c, pc1 m ρ c]) $$ Hout
  iintro Hout
  iapply (wp_land m ρ K c 1 [] rfl xT rfl rfl rfl) $$ [Hd1 Ho Hp1]
  · isplitr; · iexact HK
    isplitr; · iexact HL
    isplitl [Hd1]; · iexact Hd1
    isplitl [Ho]; · iexact Ho
    iexact Hp1
  iintro ⟨Ho, Hz1, Hpay⟩
  ihave Hb1 := (Entails.of_eq ((pay_one m ρ c 1 rfl).trans (show pay m ρ c 1 false = has xT c qFst (xb m ρ c) from rfl))) $$ Hpay
  iapply (wp_land m ρ K c 2 [] rfl xB rfl rfl rfl) $$ [Hd2 Ho Hp2]
  · isplitr; · iexact HK
    isplitr; · iexact HL
    isplitl [Hd2]; · iexact Hd2
    isplitl [Ho]; · iexact Ho
    iexact Hp2
  iintro ⟨Ho, Hz2, Hpay⟩
  ihave Hb2 := (Entails.of_eq ((pay_one m ρ c 2 rfl).trans (show pay m ρ c 2 false = has xB c qSnd (xb m ρ c) from rfl))) $$ Hpay
  iapply (wp_land m ρ K c 3 [] rfl xT rfl rfl rfl) $$ [Hd3 Ho Hp3]
  · isplitr; · iexact HK
    isplitr; · iexact HL
    isplitl [Hd3]; · iexact Hd3
    isplitl [Ho]; · iexact Ho
    iexact Hp3
  iintro ⟨Ho, Hz3, Hpay⟩
  ihave Hb3 := (Entails.of_eq ((pay_one m ρ c 3 rfl).trans (show pay m ρ c 3 false = has xT c qSnd (xb m ρ c) from rfl))) $$ Hpay
  iapply (wp_land m ρ K c 4 [] rfl xB rfl rfl rfl) $$ [Hd4 Ho Hp4]
  · isplitr; · iexact HK
    isplitr; · iexact HL
    isplitl [Hd4]; · iexact Hd4
    isplitl [Ho]; · iexact Ho
    iexact Hp4
  iintro ⟨Ho, Hz4, Hpay⟩
  ihave Hb4 := (Entails.of_eq ((pay_one m ρ c 4 rfl).trans (show pay m ρ c 4 false = has xB c qFst (xb m ρ c) from rfl))) $$ Hpay
  iapply (wp_land m ρ K c 5 [] rfl (lo tL) rfl rfl rfl) $$ [Hd5 Ho Hp5]
  · isplitr; · iexact HK
    isplitr; · iexact HL
    isplitl [Hd5]; · iexact Hd5
    isplitl [Ho]; · iexact Ho
    iexact Hp5
  iintro ⟨Ho, Hz5, Hpay⟩
  ihave Hb5 := (Entails.of_eq ((pay_one m ρ c 5 rfl).trans (show pay m ρ c 5 false = has (lo tL) c qFwd (top m ρ (prv c)) from rfl))) $$ Hpay
  rw [wp_ret]
  imodintro
  iapply Hk
  isplitl [Ho]; · iexact Ho
  isplitl [Hout]; · iexact Hout
  isplitl [Hz1]; · iexact Hz1
  isplitl [Hz2]; · iexact Hz2
  isplitl [Hz3]; · iexact Hz3
  isplitl [Hz4]; · iexact Hz4
  isplitl [Hz5]; · iexact Hz5
  isplitl [Hb1]; · iexact Hb1
  isplitl [Hb2]; · iexact Hb2
  isplitl [Hb3]; · iexact Hb3
  isplitl [Hb4]; · iexact Hb4
  iexact Hb5

end Cert.RingProof

end
-- ==== Proof.Out.lean ====
/- What the nine stores leave in the result buffer.  Together they cover it, so that what it held before does not matter. -/
module

public import proofs.«01_k».proof.Proof.BodyB

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)
variable (K : Fin 17 × Dev nD → ℕ)

/-! ## Where the nine pieces lie -/

theorem off2a (c : Dev nD) : k0_off2 c 0#32 = ![256 * (prv c).val, 0] := by revert c; decide +kernel
theorem off2b (c : Dev nD) : k0_off2 c 128#32 = ![256 * (prv c).val + 128, 0] := by revert c; decide +kernel
theorem off3a (c : Dev nD) : k0_off3 c 0#32 = ![256 * (nxt c).val, 0] := by revert c; decide +kernel
theorem off3b (c : Dev nD) : k0_off3 c 128#32 = ![256 * (nxt c).val + 128, 0] := by revert c; decide +kernel
theorem off4a (c : Dev nD) : k0_off4 c 0#32 = ![256 * (nxt (nxt c)).val, 0] := by revert c; decide +kernel
theorem off4b (c : Dev nD) : k0_off4 c 64#32 = ![256 * (nxt (nxt c)).val + 64, 0] := by revert c; decide +kernel
theorem off4c (c : Dev nD) : k0_off4 c 128#32 = ![256 * (nxt (nxt c)).val + 128, 0] := by revert c; decide +kernel
theorem off4d (c : Dev nD) : k0_off4 c 192#32 = ![256 * (nxt (nxt c)).val + 192, 0] := by revert c; decide +kernel

/-- A block of `n` whole rows from row `o` on contains every index of those rows. -/
theorem mem_rows {off : Fin 2 → ℕ} {o n : ℕ} (h : off = ![o, 0]) {inb : ∀ a, off a + (⟨2, ![n, 256]⟩ : Shape).size a ≤ S1024x256.size a}
    (y : S1024x256.Idx) (h₁ : o ≤ (y 0).val) (h₂ : (y 0).val < o + n) :
    y ∈ (Rect.unit (s := S1024x256) off (⟨2, ![n, 256]⟩ : Shape).size inb).set := by
  subst h
  rw [Rect.mem_set_unit]
  intro a
  have h1 : (y 1).val < 256 := (y 1).isLt
  fin_cases a
  · exact ⟨h₁, h₂⟩
  · exact ⟨Nat.zero_le _, by show (y 1).val < 0 + 256; omega⟩

/-- The nine stores of the body, the latest first. -/
def pcs (c : Dev nD) : List (View.Piece (Elt F) S1024x256 .f32) :=
  [pc9 m ρ c, pc8 m ρ c, pc7 m ρ c, pc6 m ρ c, pc5 m ρ c, pc4 m ρ c, pc3 m ρ c, pc2 m ρ c, pc1 m ρ c]

/-- The four blocks of rows belong to the device itself, its neighbours and the device opposite. -/
theorem four (c q : Dev nD) : q.val = c.val ∨ q.val = (prv c).val ∨ q.val = (nxt c).val ∨ q.val = (nxt (nxt c)).val := by
  revert c q; decide

/-- Every element of the result is written by one of the nine stores. -/
theorem cover (c : Dev nD) (y : S1024x256.Idx) : ∃ p ∈ pcs m ρ c, y ∈ p.1.set := by
  have hy : (y 0).val < 1024 := (y 0).isLt
  have hq : (y 0).val / 256 < 4 := by omega
  have h4 := four c ⟨(y 0).val / 256, hq⟩
  simp only at h4
  unfold pcs
  rcases h4 with h | h | h | h
  · exact ⟨pc1 m ρ c, by simp, mem_rows (k0_off1_eq c) (inb := k0_off1_inb c) y (by omega) (by omega)⟩
  · by_cases h' : (y 0).val < 256 * (prv c).val + 128
    · exact ⟨pc2 m ρ c, by simp, mem_rows (off2a c) (inb := k0_off2_inb c 0) y (by omega) (by omega)⟩
    · exact ⟨pc4 m ρ c, by simp, mem_rows (off2b c) (inb := k0_off2_inb c 1) y (by omega) (by omega)⟩
  · by_cases h' : (y 0).val < 256 * (nxt c).val + 128
    · exact ⟨pc5 m ρ c, by simp, mem_rows (off3a c) (inb := k0_off3_inb c 0) y (by omega) (by omega)⟩
    · exact ⟨pc3 m ρ c, by simp, mem_rows (off3b c) (inb := k0_off3_inb c 1) y (by omega) (by omega)⟩
  · by_cases h' : (y 0).val < 256 * (nxt (nxt c)).val + 128
    · by_cases h'' : (y 0).val < 256 * (nxt (nxt c)).val + 64
      · exact ⟨pc6 m ρ c, by simp, mem_rows (off4a c) (inb := k0_off4_inb c 0) y (by omega) (by omega)⟩
      · exact ⟨pc8 m ρ c, by simp, mem_rows (off4b c) (inb := k0_off4_inb c 1) y (by omega) (by omega)⟩
    · by_cases h'' : (y 0).val < 256 * (nxt (nxt c)).val + 192
      · exact ⟨pc7 m ρ c, by simp, mem_rows (off4c c) (inb := k0_off4_inb c 2) y (by omega) (by omega)⟩
      · exact ⟨pc9 m ρ c, by simp, mem_rows (off4d c) (inb := k0_off4_inb c 3) y (by omega) (by omega)⟩

/-- What device `c` ends with in its result buffer. -/
def outAt (c : Dev nD) : (cc0_stg2_0 : Ref sig .tc).ty.Contents (Elt F) :=
  (oM : Memref sig .tc .vmem S1024x256 .f32).view.writes (Elt F) (wstg m ρ c) (pcs m ρ c)

/-- Reading the whole buffer gives its contents. -/
theorem rd_o (f : (cc0_stg2_0 : Ref sig .tc).ty.Contents (Elt F)) : (oM : Memref sig .tc .vmem S1024x256 .f32).view.read (Elt F) f = f :=
  View.read_whole cc0_stg2_0 f

/-- Whatever the result buffer held, the nine stores leave `outAt`. -/
theorem out_eq (c : Dev nD) (g) :
    (oM : Memref sig .tc .vmem S1024x256 .f32).view.writes (Elt F) g (pcs m ρ c) = outAt m ρ c := by
  have h := View.read_writes_of_cover (oM : Memref sig .tc .vmem S1024x256 .f32).view g (oM : Memref sig .tc .vmem S1024x256 .f32).view (wstg m ρ c) (pcs m ρ c) (cover m ρ c)
  rw [rd_o, rd_o] at h
  exact h

end Cert.RingProof

end
-- ==== Proof.Body.lean ====
/- The whole kernel body, put together from its parts. -/
module

public import proofs.«01_k».proof.Proof.BodyC
public import proofs.«01_k».proof.Proof.Out

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)
variable (K : Fin 17 × Dev nD → ℕ)

/-- What the body starts from. -/
def bodyIn (c : Dev nD) (g : Buf (Elt F) ((oM : Memref sig .tc .vmem S1024x256 .f32).view.loc (c : Thread nD τ))) : sProp 𝕄 :=
  iprop(
    ow c (payList c) ∗ tok (0, prv c) true ∗ tok (0, nxt c) false ∗ tok (1, c) false ∗ tok (2, c) false ∗ tok (3, c) false ∗ tok (4, c) false
    ∗ tok (5, c) false ∗ tok (6, c) false ∗ tok (7, c) false ∗ tok (8, c) false ∗ tok (9, nxt c) false ∗ tok (10, nxt c) false ∗ tok (11, prv c) false
    ∗ tok (12, prv c) false ∗ tok (13, nxt c) false ∗ tok (14, nxt c) false ∗ tok (15, prv c) false ∗ tok (16, prv c) false ∗ due c 0 ∗ due c 9
    ∗ due c 10 ∗ due c 11 ∗ due c 12 ∗ due c 13 ∗ due c 14 ∗ due c 15 ∗ due c 16 ∗ pos c 0 ∗ pos c 1 ∗ pos c 2 ∗ pos c 3 ∗ pos c 4 ∗ pos c 5 ∗ pos c 6
    ∗ pos c 7 ∗ pos c 8 ∗ pos c 9 ∗ pos c 10 ∗ pos c 11 ∗ pos c 12 ∗ pos c 13 ∗ pos c 14 ∗ pos c 15 ∗ pos c 16 ∗ has xM c fullShare (xstg m ρ c)
    ∗ has wM c fullShare (wstg m ρ c) ∗ has oM c fullShare g ∗ (∃ f, has xbM c fullShare f) ∗ (∃ f, has wbM c fullShare f)
    ∗ (∃ f, has tL c fullShare f) ∗ (∃ f, has bL c fullShare f) ∗ (∃ f, has tR c fullShare f) ∗ (∃ f, has bR c fullShare f)
    ∗ (∃ f, has tO c fullShare f) ∗ (∃ f, has bO c fullShare f))

/-- What it ends with. -/
def bodyOut (c : Dev nD) : sProp 𝕄 :=
  iprop(
    ow c [] ∗ done c 0 ∗ done c 1 ∗ done c 2 ∗ done c 3 ∗ done c 4 ∗ done c 5 ∗ done c 6 ∗ done c 7 ∗ done c 8 ∗ done c 9 ∗ done c 10 ∗ done c 11
    ∗ done c 12 ∗ done c 13 ∗ done c 14 ∗ done c 15 ∗ done c 16 ∗ has xM c fullShare (xstg m ρ c) ∗ has wM c fullShare (wstg m ρ c)
    ∗ has oM c fullShare (outAt m ρ c) ∗ (∃ f, has xbM c fullShare f) ∗ (∃ f, has wbM c fullShare f) ∗ (∃ f, has tL c fullShare f)
    ∗ (∃ f, has bL c fullShare f) ∗ (∃ f, has tR c fullShare f) ∗ (∃ f, has bR c fullShare f) ∗ (∃ f, has tO c fullShare f)
    ∗ (∃ f, has bO c fullShare f))

set_option maxHeartbeats 6400000 in
set_option maxRecDepth 8000 in
/-- The kernel body takes the one to the other. -/
theorem body (c : Dev nD) (g) (Kt : PUnit → sProp 𝕄) :
    iprop((known m ρ K ∗ levAts L lv ∗ bodyIn m ρ c g) ∗ (bodyOut m ρ c -∗ Kt ⟨⟩))
      ⊢ wp frame (wpE (defs₀ (F := F)) 𝒱₀ (c : Thread nD τ) none) Set.univ (cc0_body (F := F) xM (Memref.isWhole_whole _) wM (Memref.isWhole_whole _) oM (Memref.isWhole_whole _) xbM (Memref.isWhole_whole _) wbM (Memref.isWhole_whole _)
  tL (Memref.isWhole_whole _) bL (Memref.isWhole_whole _) tR (Memref.isWhole_whole _) bR (Memref.isWhole_whole _) tO (Memref.isWhole_whole _) bO (Memref.isWhole_whole _) cc0_scratch8 cc0_scratch9) Kt := by
  rw [cc0_body_eq_skeleton]
  unfold cc0_body_skel bodyIn bodyOut
  simp only [wp_bind]
  iintro ⟨⟨#HK, #HL, Ho, Ht0p, Ht0n, Ht1, Ht2, Ht3, Ht4, Ht5, Ht6, Ht7, Ht8, Ht9, Ht10, Ht11, Ht12, Ht13, Ht14, Ht15, Ht16, Hd0, Hd9, Hd10, Hd11, Hd12, Hd13, Hd14, Hd15, Hd16, Hp0, Hp1, Hp2, Hp3, Hp4, Hp5, Hp6, Hp7, Hp8, Hp9, Hp10, Hp11, Hp12, Hp13, Hp14, Hp15, Hp16, Hx, Hw, Hout, HxbM, HwbM, HtL, HbL, HtR, HbR, HtO, HbO⟩, Hk⟩
  iapply (part1 m ρ K c _)
  isplitl [Ho Ht0p Ht0n Hx HtL HbL HtO HtR HbR HbO]
  · isplitr; · iexact HK
    isplitl [Ho]; · iexact Ho
    isplitl [Ht0p]; · iexact Ht0p
    isplitl [Ht0n]; · iexact Ht0n
    isplitl [Hx]; · iexact Hx
    isplitl [HtL]; · iexact HtL
    isplitl [HbL]; · iexact HbL
    isplitl [HtO]; · iexact HtO
    isplitl [HtR]; · iexact HtR
    isplitl [HbR]; · iexact HbR
    iexact HbO
  iintro %v2 %v13 %v24 ⟨Ho, Hx⟩
  icases HxbM with ⟨%fx, HxbM⟩
  icases HwbM with ⟨%fw, HwbM⟩
  iapply (part2 m ρ K c _ _ fx fw _)
  isplitl [Ho Hd0 Hp0 HxbM HwbM Hw Ht1 Ht9 Ht4 Ht12]
  · isplitr; · iexact HK
    isplitr; · iexact HL
    isplitl [Ho]; · iexact Ho
    isplitl [Hd0]; · iexact Hd0
    isplitl [Hp0]; · iexact Hp0
    isplitl [HxbM]; · iexact HxbM
    isplitl [HwbM]; · iexact HwbM
    isplitl [Hw]; · iexact Hw
    isplitl [Ht1]; · iexact Ht1
    isplitl [Ht9]; · iexact Ht9
    isplitl [Ht4]; · iexact Ht4
    iexact Ht12
  iintro ⟨Ho, Hz0, Hd1, Hd4, HxC, HxT, HxB, Hwb, Hw, HbL, HtO, HtR, HbO⟩
  iapply (part3 m ρ K c _ _ _ g _)
  isplitl [Ho HxC HxT HxB Hwb Hout HbL HtR HtO Ht2 Ht10 Ht3 Ht11 Hd9 Hp9 Ht5 Ht13]
  · isplitr; · iexact HK
    isplitr; · iexact HL
    isplitl [Ho]; · iexact Ho
    isplitl [HxC]; · iexact HxC
    isplitl [HxT]; · iexact HxT
    isplitl [HxB]; · iexact HxB
    isplitl [Hwb]; · iexact Hwb
    isplitl [Hout]; · iexact Hout
    isplitl [HbL]; · iexact HbL
    isplitl [HtR]; · iexact HtR
    isplitl [HtO]; · iexact HtO
    isplitl [Ht2]; · iexact Ht2
    isplitl [Ht10]; · iexact Ht10
    isplitl [Ht3]; · iexact Ht3
    isplitl [Ht11]; · iexact Ht11
    isplitl [Hd9]; · iexact Hd9
    isplitl [Hp9]; · iexact Hp9
    isplitl [Ht5]; · iexact Ht5
    iexact Ht13
  iintro ⟨Ho, Hz9, Hd2, Hd3, Hd5, HxC, Hwb, Hout, HtLc, HtLh, HtOh⟩
  iapply (part4 m ρ K c _ _ _)
  isplitl [Ho HtLh HtOh HbO Ht6 Ht14 Hd12 Hp12 Ht7 Ht15]
  · isplitr; · iexact HK
    isplitr; · iexact HL
    isplitl [Ho]; · iexact Ho
    isplitl [HtLh]; · iexact HtLh
    isplitl [HtOh]; · iexact HtOh
    isplitl [HbO]; · iexact HbO
    isplitl [Ht6]; · iexact Ht6
    isplitl [Ht14]; · iexact Ht14
    isplitl [Hd12]; · iexact Hd12
    isplitl [Hp12]; · iexact Hp12
    isplitl [Ht7]; · iexact Ht7
    iexact Ht15
  iintro ⟨Ho, Hz12, Hd6, Hd7, HbRc, HbRh, HbOh⟩
  iapply (part5 m ρ K c _ g _)
  isplitl [Ho HbRh HbOh Ht8 Ht16 HtLc HbRc Hwb Hout]
  · isplitr; · iexact HK
    isplitr; · iexact HL
    isplitl [Ho]; · iexact Ho
    isplitl [HbRh]; · iexact HbRh
    isplitl [HbOh]; · iexact HbOh
    isplitl [Ht8]; · iexact Ht8
    isplitl [Ht16]; · iexact Ht16
    isplitl [HtLc]; · iexact HtLc
    isplitl [HbRc]; · iexact HbRc
    isplitl [Hwb]; · iexact Hwb
    iexact Hout
  iintro %v146 ⟨Ho, Hd8, HtLc, HbRc, Hwb, Hout⟩
  iapply (part6 m ρ K c _ _ _ _ g _)
  isplitl [Ho Hwb Hout Hd10 Hp10 Hd11 Hp11]
  · isplitr; · iexact HK
    isplitr; · iexact HL
    isplitl [Ho]; · iexact Ho
    isplitl [Hwb]; · iexact Hwb
    isplitl [Hout]; · iexact Hout
    isplitl [Hd10]; · iexact Hd10
    isplitl [Hp10]; · iexact Hp10
    isplitl [Hd11]; · iexact Hd11
    iexact Hp11
  iintro %v174 ⟨Ho, Hwb, Hout, Hz10, Hz11, HbL, HtR⟩
  iapply (part7 m ρ K c _ _ g _)
  isplitl [Hwb Hout HtR]
  · isplitr; · iexact HK
    isplitr; · iexact HL
    isplitl [Hwb]; · iexact Hwb
    isplitl [Hout]; · iexact Hout
    iexact HtR
  iintro %v210 ⟨Hwb, Hout, HtR⟩
  iapply (part8 m ρ K c _ _ _ g _)
  isplitl [Ho Hwb Hout Hd13 Hp13 Hd15 Hp15]
  · isplitr; · iexact HK
    isplitr; · iexact HL
    isplitl [Ho]; · iexact Ho
    isplitl [Hwb]; · iexact Hwb
    isplitl [Hout]; · iexact Hout
    isplitl [Hd13]; · iexact Hd13
    isplitl [Hp13]; · iexact Hp13
    isplitl [Hd15]; · iexact Hd15
    iexact Hp15
  iintro ⟨Ho, Hwb, Hout, Hz13, Hz15, HtOl, HbOl⟩
  iapply (part9 m ρ K c _ _ _ g _)
  isplitl [Ho Hwb Hout Hd14 Hp14 Hd16 Hp16]
  · isplitr; · iexact HK
    isplitr; · iexact HL
    isplitl [Ho]; · iexact Ho
    isplitl [Hwb]; · iexact Hwb
    isplitl [Hout]; · iexact Hout
    isplitl [Hd14]; · iexact Hd14
    isplitl [Hp14]; · iexact Hp14
    isplitl [Hd16]; · iexact Hd16
    iexact Hp16
  iintro %v260 ⟨Ho, Hwb, Hout, Hz14, Hz16, HtOh, HbOh⟩
  iapply (part10 m ρ K c _ g _)
  isplitl [Ho Hout Hd1 Hp1 Hd2 Hp2 Hd3 Hp3 Hd4 Hp4 Hd5 Hp5]
  · isplitr; · iexact HK
    isplitr; · iexact HL
    isplitl [Ho]; · iexact Ho
    isplitl [Hout]; · iexact Hout
    isplitl [Hd1]; · iexact Hd1
    isplitl [Hp1]; · iexact Hp1
    isplitl [Hd2]; · iexact Hd2
    isplitl [Hp2]; · iexact Hp2
    isplitl [Hd3]; · iexact Hd3
    isplitl [Hp3]; · iexact Hp3
    isplitl [Hd4]; · iexact Hd4
    isplitl [Hp4]; · iexact Hp4
    isplitl [Hd5]; · iexact Hd5
    iexact Hp5
  iintro ⟨Ho, Hout, Hz1, Hz2, Hz3, Hz4, Hz5, Hb1, Hb2, Hb3, Hb4, Hb5⟩
  simp only [Prog.lift, wp_bind, Prog.bind_op, Prog.bind_ret, Prog.pure_eq_ret]
  iapply (wp_land m ρ K c 6 [] rfl (hi tL) rfl rfl rfl) $$ [Hd6 Ho Hp6]
  · isplitr; · iexact HK
    isplitr; · iexact HL
    isplitl [Hd6]; · iexact Hd6
    isplitl [Ho]; · iexact Ho
    iexact Hp6
  iintro ⟨Ho, Hz6, Hpay⟩
  ihave Hb6 := (Entails.of_eq ((pay_one m ρ c 6 rfl).trans (show pay m ρ c 6 false = has (hi tL) c qFwd (top m ρ (prv c)) from rfl))) $$ Hpay
  rw [wp_ret]
  imodintro
  iapply (wp_land m ρ K c 7 [] rfl (lo bR) rfl rfl rfl) $$ [Hd7 Ho Hp7]
  · isplitr; · iexact HK
    isplitr; · iexact HL
    isplitl [Hd7]; · iexact Hd7
    isplitl [Ho]; · iexact Ho
    iexact Hp7
  iintro ⟨Ho, Hz7, Hpay⟩
  ihave Hb7 := (Entails.of_eq ((pay_one m ρ c 7 rfl).trans (show pay m ρ c 7 false = has (lo bR) c qFwd (bot m ρ (nxt c)) from rfl))) $$ Hpay
  rw [wp_ret]
  imodintro
  iapply (wp_land m ρ K c 8 [] rfl (hi bR) rfl rfl rfl) $$ [Hd8 Ho Hp8]
  · isplitr; · iexact HK
    isplitr; · iexact HL
    isplitl [Hd8]; · iexact Hd8
    isplitl [Ho]; · iexact Ho
    iexact Hp8
  iintro ⟨Ho, Hz8, Hpay⟩
  ihave Hb8 := (Entails.of_eq ((pay_one m ρ c 8 rfl).trans (show pay m ρ c 8 false = has (hi bR) c qFwd (bot m ρ (nxt c)) from rfl))) $$ Hpay
  rw [wp_ret]
  imodintro
  rw [wp_ret]
  imodintro
  iapply Hk
  ihave Hout := (Entails.of_eq (show out c g [pc9 m ρ c, pc8 m ρ c, pc7 m ρ c, pc6 m ρ c, pc5 m ρ c, pc4 m ρ c, pc3 m ρ c, pc2 m ρ c, pc1 m ρ c] = has oM c fullShare (outAt m ρ c) from congrArg (has oM c fullShare) (out_eq m ρ c g))) $$ Hout
  ihave HxbM : (∃ f, has xbM c fullShare f) $$ [HxC Hb1 Hb4 Hb3 Hb2]
  · iexists (xb m ρ c)
    iapply (Entails.of_eq (x_split c (xb m ρ c)).symm)
    isplitl [HxC]; · iexact HxC
    isplitl [Hb1 Hb4]
    · isplitl [Hb1]; · iexact Hb1
      iexact Hb4
    isplitl [Hb3]; · iexact Hb3
    iexact Hb2
  ihave HtL : (∃ f, has tL c fullShare f) $$ [HtLc Hb5 Hb6]
  · iexists (top m ρ (prv c))
    iapply (Entails.of_eq (fwd_split tL c (top m ρ (prv c))).symm)
    isplitl [HtLc]; · iexact HtLc
    isplitl [Hb5]; · iexact Hb5
    iexact Hb6
  ihave HbR : (∃ f, has bR c fullShare f) $$ [HbRc Hb7 Hb8]
  · iexists (bot m ρ (nxt c))
    iapply (Entails.of_eq (fwd_split bR c (bot m ρ (nxt c))).symm)
    isplitl [HbRc]; · iexact HbRc
    isplitl [Hb7]; · iexact Hb7
    iexact Hb8
  ihave HtO : (∃ f, has tO c fullShare f) $$ [HtOl HtOh]
  · iexists (top m ρ (nxt (nxt c)))
    iapply (Entails.of_eq (half_split tO c fullShare (top m ρ (nxt (nxt c)))).symm)
    isplitl [HtOl]; · iexact HtOl
    iexact HtOh
  ihave HbO : (∃ f, has bO c fullShare f) $$ [HbOl HbOh]
  · iexists (bot m ρ (nxt (nxt c)))
    iapply (Entails.of_eq (half_split bO c fullShare (bot m ρ (nxt (nxt c)))).symm)
    isplitl [HbOl]; · iexact HbOl
    iexact HbOh
  ihave HwbM : (∃ f, has wbM c fullShare f) $$ [Hwb]
  · iexists (wb m ρ c); iexact Hwb
  ihave HbL : (∃ f, has bL c fullShare f) $$ [HbL]
  · iexists (bot m ρ (prv c)); iexact HbL
  ihave HtR : (∃ f, has tR c fullShare f) $$ [HtR]
  · iexists (top m ρ (nxt c)); iexact HtR
  isplitl [Ho]; · iexact Ho
  isplitl [Hz0]; · iexact Hz0
  isplitl [Hz1]; · iexact Hz1
  isplitl [Hz2]; · iexact Hz2
  isplitl [Hz3]; · iexact Hz3
  isplitl [Hz4]; · iexact Hz4
  isplitl [Hz5]; · iexact Hz5
  isplitl [Hz6]; · iexact Hz6
  isplitl [Hz7]; · iexact Hz7
  isplitl [Hz8]; · iexact Hz8
  isplitl [Hz9]; · iexact Hz9
  isplitl [Hz10]; · iexact Hz10
  isplitl [Hz11]; · iexact Hz11
  isplitl [Hz12]; · iexact Hz12
  isplitl [Hz13]; · iexact Hz13
  isplitl [Hz14]; · iexact Hz14
  isplitl [Hz15]; · iexact Hz15
  isplitl [Hz16]; · iexact Hz16
  isplitl [Hx]; · iexact Hx
  isplitl [Hw]; · iexact Hw
  isplitl [Hout]; · iexact Hout
  isplitl [HxbM]; · iexact HxbM
  isplitl [HwbM]; · iexact HwbM
  isplitl [HtL]; · iexact HtL
  isplitl [HbL]; · iexact HbL
  isplitl [HtR]; · iexact HtR
  isplitl [HbR]; · iexact HbR
  isplitl [HtO]; · iexact HtO
  iexact HbO

end Cert.RingProof

end
-- ==== Proof.Oblig.lean ====
/- What the pipeline around the body is told: the body's resources before and after its one point, and the obligation met. -/
module

public import proofs.«01_k».proof.Proof.Body
public import proofs.«01_k».proof.Proof.Gen.KernelIdeal.Points

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)
variable (K : Fin 17 × Dev nD → ℕ)

/-! ## The rights to make the arrivals, one row per device

Eighteen arrivals are made by a device: numbers 0 and 17 are its two signals, to the right and to the left; number
`j` between is the one arrival on semaphore `j`, of the device itself or of a neighbour. -/

/-- The semaphore of arrival `j`. -/
def jk (j : Fin 18) : Fin 17 := if h : j.val < 17 then ⟨j.val, h⟩ else 0
/-- Which of the barrier's two arrivals it is. -/
def jb (j : Fin 18) : Bool := decide (j.val = 17)
/-- The device it is made at. -/
def jd (j : Fin 18) (c : Dev nD) : Dev nD :=
  if j.val ∈ [0, 9, 10, 13, 14] then nxt c else if j.val ∈ [11, 12, 15, 16, 17] then prv c else c
/-- The device that makes it. -/
def jd' (j : Fin 18) (c : Dev nD) : Dev nD :=
  if j.val ∈ [0, 9, 10, 13, 14] then prv c else if j.val ∈ [11, 12, 15, 16, 17] then nxt c else c
theorem jd_jd' (j : Fin 18) (c : Dev nD) : jd j (jd' j c) = c := by revert j c; decide
theorem jd'_jd (j : Fin 18) (c : Dev nD) : jd' j (jd j c) = c := by revert j c; decide

/-- Device `c`'s rights. -/
def toks (c : Dev nD) : sProp 𝕄 := bigSep Finset.univ fun j : Fin 18 => tok (jk j, jd j c) (jb j)
/-- Device `c`'s positions. -/
def poss (c : Dev nD) : sProp 𝕄 := bigSep Finset.univ fun k : Fin 17 => pos c k
/-- Its semaphores, all back at zero. -/
def dones (c : Dev nD) : sProp 𝕄 := bigSep Finset.univ fun k : Fin 17 => done c k
/-- The arrivals it waits for that others make. -/
def dues (c : Dev nD) : sProp 𝕄 :=
  iprop(due c 0 ∗ due c 9 ∗ due c 10 ∗ due c 11 ∗ due c 12 ∗ due c 13 ∗ due c 14 ∗ due c 15 ∗ due c 16)
/-- Its eight scratch buffers, at any contents. -/
def scratch (c : Dev nD) : sProp 𝕄 :=
  iprop((∃ f, has xbM c fullShare f) ∗ (∃ f, has wbM c fullShare f) ∗ (∃ f, has tL c fullShare f) ∗ (∃ f, has bL c fullShare f) ∗ (∃ f, has tR c fullShare f) ∗ (∃ f, has bR c fullShare f) ∗ (∃ f, has tO c fullShare f) ∗ (∃ f, has bO c fullShare f))

theorem toks_list (c : Dev nD) : (toks c : sProp 𝕄) = iprop(tok (0, nxt c) false ∗ tok (1, c) false ∗ tok (2, c) false ∗ tok (3, c) false ∗ tok (4, c) false ∗ tok (5, c) false ∗ tok (6, c) false ∗ tok (7, c) false ∗ tok (8, c) false ∗ tok (9, nxt c) false ∗ tok (10, nxt c) false ∗ tok (11, prv c) false ∗ tok (12, prv c) false ∗ tok (13, nxt c) false ∗ tok (14, nxt c) false ∗ tok (15, prv c) false ∗ tok (16, prv c) false ∗ tok (0, prv c) true) :=
  bigSep_univ_eq_bigSepL [0, 1, 2, 3, 4, 5, 6, 7, 8, 9, 10, 11, 12, 13, 14, 15, 16, 17] (by decide) (by decide) _
theorem poss_list (c : Dev nD) : (poss c : sProp 𝕄) = iprop(pos c 0 ∗ pos c 1 ∗ pos c 2 ∗ pos c 3 ∗ pos c 4 ∗ pos c 5 ∗ pos c 6 ∗ pos c 7 ∗ pos c 8 ∗ pos c 9 ∗ pos c 10 ∗ pos c 11 ∗ pos c 12 ∗ pos c 13 ∗ pos c 14 ∗ pos c 15 ∗ pos c 16) :=
  bigSep_univ_eq_bigSepL [0, 1, 2, 3, 4, 5, 6, 7, 8, 9, 10, 11, 12, 13, 14, 15, 16] (by decide) (by decide) _
theorem dones_list (c : Dev nD) : (dones c : sProp 𝕄) = iprop(done c 0 ∗ done c 1 ∗ done c 2 ∗ done c 3 ∗ done c 4 ∗ done c 5 ∗ done c 6 ∗ done c 7 ∗ done c 8 ∗ done c 9 ∗ done c 10 ∗ done c 11 ∗ done c 12 ∗ done c 13 ∗ done c 14 ∗ done c 15 ∗ done c 16) :=
  bigSep_univ_eq_bigSepL [0, 1, 2, 3, 4, 5, 6, 7, 8, 9, 10, 11, 12, 13, 14, 15, 16] (by decide) (by decide) _

/-! ## The pipeline's data -/

/-- What device `c` starts from besides its buffers. -/
def start (c : Dev nD) : sProp 𝕄 :=
  iprop((∃ K, known m ρ K ∗ poss c ∗ toks c) ∗ dues c ∗ levAts L lv)

def Φ₀ (c : Dev nD) : sProp 𝕄 := iprop(start m ρ c ∗ scratch c)
def Φ₁ (c : Dev nD) : sProp 𝕄 := iprop(dones c ∗ scratch c)

/-- Before the point, after the point, and what the three windows hold then. -/
def dats (_ : Fin 1) (c : Dev nD) : Pipeline.Dat τ (Elt F) Unit ℕ UU ℕ cfg0 c where
  A w := (s₀ m ρ).mem ((cfg0.win w).arr.view.loc (c : Thread nD τ))
  after w _ := match w with
    | ⟨0, _⟩ => xstg m ρ c
    | ⟨1, _⟩ => wstg m ρ c
    | ⟨2, _⟩ => outAt m ρ c
  Φ t := match t with
    | ⟨0, _⟩ => Φ₀ m ρ c
    | ⟨_ + 1, _⟩ => Φ₁ c
  q _ := fullShare
  owed t := match t with
    | ⟨0, _⟩ => owedL (payList c)
    | ⟨_ + 1, _⟩ => 0

/-- A staging buffer of the pipeline is held whole, at given contents. -/
abbrev staged (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem owns_staged (c : Dev nD) (b : Ref sig .tc) (X : b.ty.Contents (Elt F)) :
    (owns (Ix := Unit) (Name := ℕ) (U := UU) (Lvl := ℕ) (c : Thread nD τ) (Memref.whole b) fullShare X : sProp 𝕄) = staged c b X := by
  unfold owns; simp only [Memref.view_whole, View.read_whole, View.set_whole]

theorem has_x (c : Dev nD) (f) : has (F := F) xM c fullShare f = (((c : Thread nD τ).loc cc0_stg0_0) ↦{fullShare} f : sProp 𝕄) := has_whole cc0_stg0_0 c _ xM (View.set_whole _) f
theorem has_w (c : Dev nD) (f) : has (F := F) wM c fullShare f = (((c : Thread nD τ).loc cc0_stg1_0) ↦{fullShare} f : sProp 𝕄) := has_whole cc0_stg1_0 c _ wM (View.set_whole _) f
theorem has_o (c : Dev nD) (f) : has (F := F) oM c fullShare f = (((c : Thread nD τ).loc cc0_stg2_0) ↦{fullShare} f : sProp 𝕄) := has_whole cc0_stg2_0 c _ oM (View.set_whole _) f

/-- The one point of the grid. -/
abbrev t₀ : Fin cfg0.N := t0_0

/-- What the obligation gives the body, and what it asks of it. -/
def obIn (c : Dev nD) : sProp 𝕄 :=
  iprop(Φ₀ m ρ c ∗ (dats m ρ 0 c).owesAt () t₀.castSucc
    ∗ (∃ d, staged c cc0_stg0_0 ((dats m ρ 0 c).before (0 : Fin 3) t₀ d))
    ∗ (∃ d, staged c cc0_stg1_0 ((dats m ρ 0 c).before (1 : Fin 3) t₀ d))
    ∗ (∃ d, staged c cc0_stg2_0 ((dats m ρ 0 c).before (2 : Fin 3) t₀ d)))
def obOut (c : Dev nD) : sProp 𝕄 :=
  iprop(Φ₁ c ∗ (dats m ρ 0 c).owesAt () t₀.succ
    ∗ staged c cc0_stg0_0 (xstg m ρ c) ∗ staged c cc0_stg1_0 (wstg m ρ c) ∗ staged c cc0_stg2_0 (outAt m ρ c))

set_option maxHeartbeats 3200000 in
set_option maxRecDepth 8000 in
/-- The body meets it. -/
theorem sound_body (c : Dev nD) (Kt : PUnit → sProp 𝕄) :
    iprop(obIn m ρ c ∗ (obOut m ρ c -∗ Kt ⟨⟩))
      ⊢ wp frame (wpE (defs₀ (F := F)) 𝒱₀ (c : Thread nD τ) none) Set.univ (cc0_body (F := F) xM (Memref.isWhole_whole _) wM (Memref.isWhole_whole _) oM (Memref.isWhole_whole _) xbM (Memref.isWhole_whole _) wbM (Memref.isWhole_whole _)
  tL (Memref.isWhole_whole _) bL (Memref.isWhole_whole _) tR (Memref.isWhole_whole _) bR (Memref.isWhole_whole _) tO (Memref.isWhole_whole _) bO (Memref.isWhole_whole _) cc0_scratch8 cc0_scratch9) Kt := by
  unfold obIn Φ₀ start
  rw [poss_list, toks_list]
  unfold dues scratch Pipeline.Dat.owesAt Pipeline.owesWithin
  iintro ⟨⟨⟨⟨⟨%K, #HK, ⟨Hp0, Hp1, Hp2, Hp3, Hp4, Hp5, Hp6, Hp7, Hp8, Hp9, Hp10, Hp11, Hp12, Hp13, Hp14, Hp15, Hp16⟩, Ht0n, Ht1, Ht2, Ht3, Ht4, Ht5, Ht6, Ht7, Ht8, Ht9, Ht10, Ht11, Ht12, Ht13, Ht14, Ht15, Ht16, Ht0p⟩, ⟨Hd0, Hd9, Hd10, Hd11, Hd12, Hd13, Hd14, Hd15, Hd16⟩, #HL⟩, HxbM, HwbM, HtL, HbL, HtR, HbR, HtO, HbO⟩, ⟨%W, %hW, Ho⟩, ⟨%d0, %g0, %hg0, Hx⟩, ⟨%d1, %g1, %hg1, Hw⟩, ⟨%d2, %g, %hg2, Hout⟩⟩, Hk⟩
  have h0 : g0 = xstg m ρ c := by rw [hg0]; unfold Pipeline.Dat.before; rw [if_pos (fetch0_0 t₀)]; rfl
  have h1 : g1 = wstg m ρ c := by rw [hg1]; unfold Pipeline.Dat.before; rw [if_pos (fetch0_1 t₀)]; rfl
  subst h0
  subst h1
  ihave Hx := (Entails.of_eq (has_x c _).symm) $$ Hx
  ihave Hw := (Entails.of_eq (has_w c _).symm) $$ Hw
  ihave Hout := (Entails.of_eq (has_o c _).symm) $$ Hout
  iapply (body m ρ K c g Kt)
  isplitr [Hk]
  · isplitr; · iexact HK
    isplitr; · iexact HL
    unfold bodyIn
    isplitl [Ho]
    · unfold ow; iexists W; iexact Ho
    isplitl [Ht0p]; · iexact Ht0p
    isplitl [Ht0n]; · iexact Ht0n
    isplitl [Ht1]; · iexact Ht1
    isplitl [Ht2]; · iexact Ht2
    isplitl [Ht3]; · iexact Ht3
    isplitl [Ht4]; · iexact Ht4
    isplitl [Ht5]; · iexact Ht5
    isplitl [Ht6]; · iexact Ht6
    isplitl [Ht7]; · iexact Ht7
    isplitl [Ht8]; · iexact Ht8
    isplitl [Ht9]; · iexact Ht9
    isplitl [Ht10]; · iexact Ht10
    isplitl [Ht11]; · iexact Ht11
    isplitl [Ht12]; · iexact Ht12
    isplitl [Ht13]; · iexact Ht13
    isplitl [Ht14]; · iexact Ht14
    isplitl [Ht15]; · iexact Ht15
    isplitl [Ht16]; · iexact Ht16
    isplitl [Hd0]; · iexact Hd0
    isplitl [Hd9]; · iexact Hd9
    isplitl [Hd10]; · iexact Hd10
    isplitl [Hd11]; · iexact Hd11
    isplitl [Hd12]; · iexact Hd12
    isplitl [Hd13]; · iexact Hd13
    isplitl [Hd14]; · iexact Hd14
    isplitl [Hd15]; · iexact Hd15
    isplitl [Hd16]; · iexact Hd16
    isplitl [Hp0]; · iexact Hp0
    isplitl [Hp1]; · iexact Hp1
    isplitl [Hp2]; · iexact Hp2
    isplitl [Hp3]; · iexact Hp3
    isplitl [Hp4]; · iexact Hp4
    isplitl [Hp5]; · iexact Hp5
    isplitl [Hp6]; · iexact Hp6
    isplitl [Hp7]; · iexact Hp7
    isplitl [Hp8]; · iexact Hp8
    isplitl [Hp9]; · iexact Hp9
    isplitl [Hp10]; · iexact Hp10
    isplitl [Hp11]; · iexact Hp11
    isplitl [Hp12]; · iexact Hp12
    isplitl [Hp13]; · iexact Hp13
    isplitl [Hp14]; · iexact Hp14
    isplitl [Hp15]; · iexact Hp15
    isplitl [Hp16]; · iexact Hp16
    isplitl [Hx]; · iexact Hx
    isplitl [Hw]; · iexact Hw
    isplitl [Hout]; · iexact Hout
    isplitl [HxbM]; · iexact HxbM
    isplitl [HwbM]; · iexact HwbM
    isplitl [HtL]; · iexact HtL
    isplitl [HbL]; · iexact HbL
    isplitl [HtR]; · iexact HtR
    isplitl [HbR]; · iexact HbR
    isplitl [HtO]; · iexact HtO
    iexact HbO
  · unfold bodyOut
    iintro ⟨Ho, Hz0, Hz1, Hz2, Hz3, Hz4, Hz5, Hz6, Hz7, Hz8, Hz9, Hz10, Hz11, Hz12, Hz13, Hz14, Hz15, Hz16, Hx, Hw, Hout, HxbM, HwbM, HtL, HbL, HtR, HbR, HtO, HbO⟩
    iapply Hk
    unfold obOut Φ₁
    rw [dones_list]
    unfold scratch
    isplitl [Hz0 Hz1 Hz2 Hz3 Hz4 Hz5 Hz6 Hz7 Hz8 Hz9 Hz10 Hz11 Hz12 Hz13 Hz14 Hz15 Hz16 HxbM HwbM HtL HbL HtR HbR HtO HbO]
    · isplitl [Hz0 Hz1 Hz2 Hz3 Hz4 Hz5 Hz6 Hz7 Hz8 Hz9 Hz10 Hz11 Hz12 Hz13 Hz14 Hz15 Hz16]
      · isplitl [Hz0]; · iexact Hz0
        isplitl [Hz1]; · iexact Hz1
        isplitl [Hz2]; · iexact Hz2
        isplitl [Hz3]; · iexact Hz3
        isplitl [Hz4]; · iexact Hz4
        isplitl [Hz5]; · iexact Hz5
        isplitl [Hz6]; · iexact Hz6
        isplitl [Hz7]; · iexact Hz7
        isplitl [Hz8]; · iexact Hz8
        isplitl [Hz9]; · iexact Hz9
        isplitl [Hz10]; · iexact Hz10
        isplitl [Hz11]; · iexact Hz11
        isplitl [Hz12]; · iexact Hz12
        isplitl [Hz13]; · iexact Hz13
        isplitl [Hz14]; · iexact Hz14
        isplitl [Hz15]; · iexact Hz15
        iexact Hz16
      isplitl [HxbM]; · iexact HxbM
      isplitl [HwbM]; · iexact HwbM
      isplitl [HtL]; · iexact HtL
      isplitl [HbL]; · iexact HbL
      isplitl [HtR]; · iexact HtR
      isplitl [HbR]; · iexact HbR
      isplitl [HtO]; · iexact HtO
      iexact HbO
    isplitl [Ho]
    · unfold Pipeline.Dat.owesAt Pipeline.owesWithin ow
      icases Ho with ⟨%W', Ho⟩
      iexists W'
      isplitr; · ipureintro; exact fun _ _ => Or.inl trivial
      iexact Ho
    isplitl [Hx]
    · iexists (xstg m ρ c); isplitr; · (ipureintro; rfl)
      iapply (Entails.of_eq (has_x c _)); iexact Hx
    isplitl [Hw]
    · iexists (wstg m ρ c); isplitr; · (ipureintro; rfl)
      iapply (Entails.of_eq (has_w c _)); iexact Hw
    iexists (outAt m ρ c); isplitr; · (ipureintro; rfl)
    iapply (Entails.of_eq (has_o c _)); iexact Hout

set_option maxRecDepth 4000 in
/-- The obligation, as the pipeline states it. -/
theorem body_obligation (c : Dev nD) : Pipeline.BodyObligation (dats (F := F) m ρ 0 c) (defs₀ (F := F)) 𝒱₀ () Set.univ := fun t => by
  rw [fin_N0 t]
  have hW (Φ : Fin cfg0.W → sProp 𝕄) : bigSep Finset.univ Φ = iprop(Φ (0 : Fin 3) ∗ Φ (1 : Fin 3) ∗ Φ (2 : Fin 3)) := bigSep_W0 Φ
  rw [hW, hW]
  simp only [owns_staged]
  show obIn m ρ c ⊢ wp frame (wpE (defs₀ (F := F)) 𝒱₀ (c : Thread nD τ) none) Set.univ (cc0_body (F := F) xM (Memref.isWhole_whole _) wM (Memref.isWhole_whole _) oM (Memref.isWhole_whole _) xbM (Memref.isWhole_whole _) wbM (Memref.isWhole_whole _)
  tL (Memref.isWhole_whole _) bL (Memref.isWhole_whole _) tR (Memref.isWhole_whole _) bR (Memref.isWhole_whole _) tO (Memref.isWhole_whole _) bO (Memref.isWhole_whole _) cc0_scratch8 cc0_scratch9) (fun _ => obOut m ρ c)
  iintro H
  iapply (sound_body m ρ c fun _ => obOut m ρ c)
  isplitl [H]; · iexact H
  iintro H; iexact H

end Cert.RingProof

end
-- ==== Proof.Launch.lean ====
/- The launch: the protocol's records are made from the zeroed semaphores, the rights are dealt around the ring, and the whole run is concluded. -/
module

public import proofs.«01_k».proof.Proof.Oblig
public import Idealize.ShloMosaic.Lib.Pipeline.CollectiveSegs

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)
variable (K : Fin 17 × Dev nD → ℕ)

/-! ## The semaphores at launch -/

/-- The kernel's own sixteen semaphores. -/
abbrev osem (j : Fin 16) : SemLoc sig := kloc j.succ

theorem ownSemFacts : Pipeline.OwnSemFacts cfg0.spec osem := by decide

theorem share_eq (c : Dev nD) (w : Fin cfg0.W) : (dats m ρ 0 c).share w = fullShare := by
  unfold Pipeline.Dat.share
  split <;> rfl

/-- They and the barrier are the seventeen of the table. -/
theorem sems0 (c : Dev nD) :
    iprop(Pipeline.ownSems0 (Ix := Unit) (Name := ℕ) (U := UU) (Lvl := ℕ) (Val := Elt F) (τ := τ) osem c ∗ unscopedSems0 c) = (dones c : sProp 𝕄) := by
  rw [Pipeline.ownSems0_eq_of_list c osem [0, 1, 2, 3, 4, 5, 6, 7, 8, 9, 10, 11, 12, 13, 14, 15] (by decide) (by decide), dones_list]
  have hu : (unscopedSems0 c : sProp 𝕄) = done c 0 := by
    unfold unscopedSems0
    rw [bigSep_eq_bigSepL_of_eq [SemLoc.reg barS] (by decide) (by decide)]
    rfl
  rw [hu]
  show iprop((done c 1 ∗ done c 2 ∗ done c 3 ∗ done c 4 ∗ done c 5 ∗ done c 6 ∗ done c 7 ∗ done c 8 ∗ done c 9 ∗ done c 10 ∗ done c 11 ∗ done c 12 ∗ done c 13 ∗ done c 14 ∗ done c 15 ∗ done c 16) ∗ done c 0) = _
  exact Idealize.SL.BI.Entails.antisymm Idealize.SL.BI.sep_comm Idealize.SL.BI.sep_comm

/-! ## What the launch mints -/

abbrev cellAt : Fin 17 × Dev nD ↪ GSem nD τ sig := ⟨kcell, kcell_inj⟩
def ringCells : Finset (GSem nD τ sig) := Finset.univ.map cellAt

/-- The right to make arrival `j` at device `c`. -/
def tokAt (p : Dev nD × Fin 18) : GSem nD τ sig × ℕ × Bool := (kcell (jk p.2, p.1), 0, jb p.2)
theorem jkb_inj (i j : Fin 18) (h : jk i = jk j) (h' : jb i = jb j) : i = j := by
  revert i j; decide
theorem tokAt_inj : Function.Injective tokAt := by
  rintro ⟨c, i⟩ ⟨d, j⟩ h
  have h₁ := kcell_inj (congrArg Prod.fst h)
  have h₂ : jb i = jb j := congrArg (fun x : GSem nD τ sig × ℕ × Bool => x.2.2) h
  have h₃ : jk i = jk j := congrArg Prod.fst h₁
  have h₄ : c = d := congrArg Prod.snd h₁
  rw [jkb_inj i j h₃ h₂, h₄]
def ringToks : Finset (GSem nD τ sig × ℕ × Bool) := Finset.univ.map ⟨tokAt, tokAt_inj⟩

def u₀ : UU := (initOf (Pipeline.cells cfgs cellOf_inj) (Pipeline.launchToks cfgs cellOf_inj), initOf ringCells ringToks)

/-- The rights as they are minted: those at device `c`. -/
def toks₀ (c : Dev nD) : sProp 𝕄 := bigSep Finset.univ fun j : Fin 18 => tok (jk j, c) (jb j)

/-- What device `c` gets of the minted records. -/
def G (c : Dev nD) : sProp 𝕄 :=
  iprop((bigSep Finset.univ fun k : Fin 17 => roundState ER (sched m ρ) (kcell (k, c)) 0)
    ∗ poss c ∗ (bigSep Finset.univ fun k : Fin 17 => reached ER (kcell (k, c)) 0) ∗ toks₀ c)
/-- What becomes of it. -/
def G' (c : Dev nD) : sProp 𝕄 := iprop(∃ K, known m ρ K ∗ poss c ∗ toks c)

/-- Over all cells is over the devices and, for each, over the table. -/
theorem cells_by_dev (Φ : GSem nD τ sig → sProp 𝕄) :
    bigSep ringCells Φ = bigSep Finset.univ fun c : Dev nD => bigSep Finset.univ fun k : Fin 17 => Φ (kcell (k, c)) := by
  unfold ringCells
  rw [BI.bigSep_map, ← bigSep_univ_prod (fun p : Dev nD × Fin 17 => Φ (kcell (p.2, p.1))),
    bigSep_univ_equiv (Equiv.prodComm (Dev nD) (Fin 17)) (fun p : Fin 17 × Dev nD => Φ (cellAt p))]
  rfl

theorem fund_ring : BI.own (ER (initOf ringCells ringToks)) ⊢ (|==> bigSep Finset.univ (G m ρ) : sProp 𝕄) := by
  have hT : bigSep ringToks (fun x => (dutyTok ER x.1 x.2.1 x.2.2 : sProp 𝕄)) = bigSep Finset.univ fun c : Dev nD => toks₀ c := by
    unfold ringToks
    rw [BI.bigSep_map, bigSep_univ_prod]
    rfl
  iintro HX
  imod (Rounds.fund ER (sched m ρ) ringCells ringToks) $$ HX with ⟨Hst, Hr, Hat, Htok⟩
  imodintro
  ihave Hst := (Entails.of_eq (cells_by_dev fun g => roundState ER (sched m ρ) g 0)) $$ Hst
  ihave Hat := (Entails.of_eq (cells_by_dev (F := F) fun g => atPos ER g 0 ∅ 0)) $$ Hat
  ihave Hr := (Entails.of_eq (cells_by_dev (F := F) fun g => reached ER g 0)) $$ Hr
  ihave Htok := (Entails.of_eq hT) $$ Htok
  unfold G
  simp only [bigSep_sep']
  isplitl [Hst]; · iexact Hst
  isplitl [Hat]; · iexact Hat
  isplitl [Hr]; · iexact Hr
  iexact Htok

/-! ## The global step -/

/-- The invariants of one device's semaphores. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k : Fin 17 => iprop(∃ κ : ℕ, cellInv ER (sched m ρ) κ (kcell (k, c))))
          ∗ poss c ∗ (bigSep Finset.univ fun k : Fin 17 => reached ER (kcell (k, c)) 0) ∗ toks₀ c) := by
  unfold G
  iintro ⟨Hos, Hus, Hst, Hat, Hr, Htok⟩
  ihave Hv := (Entails.of_eq (sems0 (F := F) c)) $$ [Hos Hus]
  · isplitl [Hos] <;> iassumption
  imod (show iprop(dones c ∗ bigSep Finset.univ fun k : Fin 17 => roundState ER (sched m ρ) (kcell (k, c)) 0)
      ⊢ (|={Set.univ}=> bigSep Finset.univ fun k : Fin 17 => iprop(∃ κ : ℕ, cellInv ER (sched m ρ) κ (kcell (k, c))) : sProp 𝕄) from by
        unfold dones
        rw [← bigSep_sep']
        exact (bigSep_mono fun k _ => (Rounds.body_intro ER (sched m ρ) (kcell (k, c))).trans inv_alloc).trans (bigSep_fupd _ _)) $$ [Hv Hst] with Hinv
  · isplitl [Hv] <;> iassumption
  imodintro
  isplitl [Hinv]; · iexact Hinv
  isplitl [Hat]; · iexact Hat
  isplitl [Hr]; · iexact Hr
  iexact Htok

/-- Who makes an arrival and where it is made determine each other. -/
def deal : Dev nD × Fin 18 ≃ Dev nD × Fin 18 where
  toFun p := (jd p.2 p.1, p.2)
  invFun p := (jd' p.2 p.1, p.2)
  left_inv p := Prod.ext (jd'_jd p.2 p.1) rfl
  right_inv p := Prod.ext (jd_jd' p.2 p.1) rfl

/-- The rights go to the devices that use them. -/
theorem toks_dealt : (bigSep Finset.univ fun c : Dev nD => (toks₀ c : sProp 𝕄)) = bigSep Finset.univ fun c : Dev nD => toks c := by
  unfold toks₀ toks
  rw [← bigSep_univ_prod (fun p : Dev nD × Fin 18 => (tok (jk p.2, p.1) (jb p.2) : sProp 𝕄)),
    bigSep_univ_equiv deal (fun p : Dev nD × Fin 18 => (tok (jk p.2, p.1) (jb p.2) : sProp 𝕄)), bigSep_univ_prod]
  rfl

/-- A persistent fact is there for every member. -/
theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k : Fin 17 => iprop(∃ κ : ℕ, cellInv ER (sched m ρ) κ (kcell (k, c))))
          ∗ poss c ∗ (bigSep Finset.univ fun k : Fin 17 => reached ER (kcell (k, c)) 0) ∗ toks₀ c) : sProp 𝕄)
      ⊢ bigSep Finset.univ (G' m ρ) := by
  have hp (Φ : Fin 17 × Dev nD → sProp 𝕄) :
      (bigSep Finset.univ fun c : Dev nD => bigSep Finset.univ fun k : Fin 17 => Φ (k, c)) = bigSep Finset.univ Φ := by
    rw [← bigSep_univ_prod (fun p : Dev nD × Fin 17 => Φ (p.2, p.1)), bigSep_univ_equiv (Equiv.prodComm (Dev nD) (Fin 17)) Φ]
    rfl
  rw [bigSep_sep', bigSep_sep', bigSep_sep', toks_dealt, hp (fun p => iprop(∃ κ : ℕ, cellInv ER (sched m ρ) κ (kcell p))),
    hp (fun p => reached ER (kcell p) 0)]
  iintro ⟨HI, Hat, #HR, Htok⟩
  ihave HK := (BI.bigSep_exists_pi Finset.univ (fun (p : Fin 17 × Dev nD) (κ : ℕ) => (cellInv ER (sched m ρ) κ (kcell p) : sProp 𝕄))) $$ HI
  icases HK with ⟨%K, #HI⟩
  iapply (with_persistent (R := known m ρ K) (Φ := fun c : Dev nD => iprop(poss c ∗ toks c)) fun c _ => by
    unfold G'
    iintro ⟨#HK, Hp, Ht⟩
    iexists K
    isplitr; · iexact HK
    isplitl [Hp]; · iexact Hp
    iexact Ht)
  isplitr
  · unfold known
    rw [bigSep_sep']
    isplitr; · iexact HI
    iexact HR
  · rw [bigSep_sep']
    isplitl [Hat]; · iexact Hat
    iexact Htok

theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The credit at launch -/

/-- What a list owes at a semaphore: as many arrivals as it names the semaphore. -/
theorem owedL_at (ps : Owed) (p : Fin 17 × Dev nD) : owedL ps (kcell p) () = ps.count p * Nk p.1 := by
  induction ps with
  | nil => simp [owedL]
  | cons q ps ih =>
    unfold owedL
    rw [Pi.add_apply, Finsupp.add_apply, ih, tallyAt_apply]
    by_cases h : q = p
    · subst h
      rw [if_pos ⟨rfl, rfl⟩, List.count_cons_self, Nat.add_mul, Nat.one_mul]
    · rw [if_neg (fun h' => h (kcell_inj h'.1).symm), List.count_cons_of_ne h, Nat.add_zero]

/-- How many arrivals all devices together make on semaphore `k` of device `c`. -/
def total (k : Fin 17) (c : Dev nD) : ℕ := ∑ d : Dev nD, (payList d).count (k, c)

/-- On the barrier and the receiving semaphores: those that the device waits for. -/
theorem total_eq (k : Fin 17) (c : Dev nD) (h : k.val = 0 ∨ 9 ≤ k.val) : total k c = (arr k).card := by
  revert k c; decide

theorem launch_at (k : Fin 17) (c : Dev nD) (h : k.val = 0 ∨ 9 ≤ k.val) :
    tallyOn (kcell (k, c)) (launchCredit (Pipeline.owing fun d => owedL (payList d)) 0 (kcell (k, c)))
      = (tallyAt (kcell (k, c)) () ((arr k).card * Nk k) : CellTallies nD τ sig Unit) := by
  unfold tallyAt
  refine congrArg _ (Finsupp.ext fun u => ?_)
  cases u
  rw [Pipeline.launchCredit_owing, Finsupp.single_eq_same, Finset.sum_congr rfl fun d _ => owedL_at (payList d) (k, c),
    ← Finset.sum_mul]
  exact congrArg (· * Nk k) (total_eq k c h)

/-- The nine semaphores whose arrivals others make. -/
def fromOthers : Finset (Fin 17) := {0, 9, 10, 11, 12, 13, 14, 15, 16}

theorem creds (c : Dev nD) : (Pipeline.launchCred (fun d => owedL (payList d)) c : sProp 𝕄) ⊢ dues c := by
  have h₁ : dues c = bigSep fromOthers fun k => (due c k : sProp 𝕄) :=
    (bigSep_eq_bigSepL_of_eq [0, 9, 10, 11, 12, 13, 14, 15, 16] (by decide) (by decide) _).symm
  have h₂ : bigSep fromOthers (fun k => (due c k : sProp 𝕄))
      = bigSep (fromOthers.map ⟨kloc, kloc_inj⟩) fun sm =>
          cred (tallyOn ((c : Thread nD τ), sm) (launchCredit (Pipeline.owing fun d => owedL (payList d)) 0 ((c : Thread nD τ), sm))) := by
    rw [BI.bigSep_map]
    exact bigSep_congr fun k hk => congrArg cred (launch_at k c (by revert k; decide)).symm
  rw [h₁, h₂]
  unfold Pipeline.launchCred
  exact BI.bigSep_subset (Finset.subset_univ _)

/-! ## Entry and exit -/

theorem start_intro (c : Dev nD) :
    iprop(Pipeline.unscopedRestP Pipeline.Prefetch.none cfg0.spec c (fun b => m ((c : Thread nD τ).loc b)) ∗ levAts L lv
        ∗ Pipeline.launchCred (fun d => owedL (payList d)) c ∗ prngReg c (ρ c) ∗ G' m ρ c)
      ⊢ |={Set.univ}=> iprop(start m ρ c ∗ emp) := by
  iintro ⟨-, Hlev, Hcr, -, HG⟩
  ihave Hc := (creds (F := F) c) $$ Hcr
  imodintro
  unfold start G'
  isplitl
  · isplitl [HG]; · iexact HG
    isplitl [Hc]; · iexact Hc
    iexact Hlev
  · iempintro

/-- The scratch buffers as the launch lists them. -/
theorem scratch_eq (c : Dev nD) : (Pipeline.scopedRest cfg0.spec c : sProp 𝕄) = scratch c := by
  rw [scopedRest0_eq]
  unfold scratch
  refine congrArg₂ _ ?_ (congrArg₂ _ ?_ (congrArg₂ _ ?_ (congrArg₂ _ ?_ (congrArg₂ _ ?_ (congrArg₂ _ ?_ (congrArg₂ _ ?_ ?_))))))
  · exact congrArg _ (funext fun f => (has_whole cc0_scratch0 c _ xbM (View.set_whole _) f).symm)
  · exact congrArg _ (funext fun f => (has_whole cc0_scratch1 c _ wbM (View.set_whole _) f).symm)
  · exact congrArg _ (funext fun f => (has_whole cc0_scratch2 c _ tL (View.set_whole _) f).symm)
  · exact congrArg _ (funext fun f => (has_whole cc0_scratch3 c _ bL (View.set_whole _) f).symm)
  · exact congrArg _ (funext fun f => (has_whole cc0_scratch4 c _ tR (View.set_whole _) f).symm)
  · exact congrArg _ (funext fun f => (has_whole cc0_scratch5 c _ bR (View.set_whole _) f).symm)
  · exact congrArg _ (funext fun f => (has_whole cc0_scratch6 c _ tO (View.set_whole _) f).symm)
  · exact congrArg _ (funext fun f => (has_whole cc0_scratch7 c _ bO (View.set_whole _) f).symm)

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scratch_eq]
  unfold Φ₀
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scratch_eq]
  unfold Φ₁
  rw [← sems0]
  iintro ⟨⟨Hos, Hus⟩, Hr⟩
  isplitl [Hus]; · iexact Hus
  isplitl [Hos]; · iexact Hos
  iexact Hr

/-- The pipeline's own waits lie below everything a device owes. -/
theorem wait_stage (c : Dev nD) (sm : SemLoc sig) (h : kof sm = none) (O : CellTallies nD τ sig Unit) (hO : O = owedL (payList c) ∨ O = 0) :
    (levAts L lv : sProp 𝕄) ⊢ MayWait (c : Thread nD τ) sm () O := by
  rcases hO with rfl | rfl
  · refine may_wait c sm (payList c) fun p hp => ?_
    have h0 : lv ((c : Thread nD τ), sm) () = 0 := by unfold lv; rw [h]
    rw [h0]
    have := List.all_eq_true.mp (show ((payList c).map Prod.fst).all (fun k => decide (0 < klev k)) = true from rfl) p.1 (List.mem_map_of_mem hp)
    exact of_decide_eq_true this
  · rw [MayWait_zero]; iintro -; iempintro

theorem waits (c : Dev nD) : (levAts L lv : sProp 𝕄) ⊢ Pipeline.cellsWaits cfgs (dats m ρ) () 0 c :=
  Pipeline.cellsWaits_intro cfgs (dats m ρ) () 0 c fun w s t =>
    wait_stage c _ (by fin_cases w <;> fin_cases s <;> decide) _ (by
      rcases t with ⟨_ | _, ht⟩
      · exact Or.inl rfl
      · exact Or.inr rfl)

/-! ## The run -/

/-- What the run leaves in the array of window `w` of device `c`. -/
def finalA (c : Dev nD) (w : Fin cfg0.W) : Buf (Elt F) ((cfg0.win w).arr.view.loc (c : Thread nD τ)) := (dats m ρ 0 c).arrAt w cfg0.N

set_option maxRecDepth 8000 in
/-- From any memory with all semaphores at zero the four devices run to the end, whatever the order in which they
    proceed; the arrays then hold what the pipeline's data say, and all semaphores are at zero again. -/
theorem run_main : θ_run defs (onTc (τ := τ) (main (F := F))) (s₀ m ρ)
    (fun r => (∀ c : Dev nD, ∀ w : Fin cfg0.W, r.2.mem ((cfg0.win w).arr.view.loc (c : Thread nD τ)) = finalA m ρ c w) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := fun d => owedL (payList d)) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.RingProof

end
-- ==== Proof.Final.lean ====
/- What the run leaves in the three arrays: the arguments as they were, the result at the contents the nine stores make. -/
module

public import proofs.«01_k».proof.Proof.Launch

@[expose] public section

noncomputable section

namespace Cert.RingProof

open Cert.KernelIdeal Cert.KernelIdeal.Gen

open Idealize.ShloMosaic
open Idealize.ShloMosaic.TcCoe
open Idealize.SL.Sem

variable {F : FTy → Type} [FloatOps F]
variable (m : (ℓ : Loc nD τ sig) → Buf (Elt F) ℓ) (ρ : Dev nD → PrngReg)

/-- The rows of `x` are an input: the run leaves them as they were. -/
theorem final_x (c : Dev nD) : finalA m ρ c (0 : Fin 3) = m ((c : Thread nD τ).loc main_arg0) :=
  (dats (F := F) m ρ 0 c).arrAt_in (0 : Fin 3) rfl _

/-- The columns of `w` likewise. -/
theorem final_w (c : Dev nD) : finalA m ρ c (1 : Fin 3) = m ((c : Thread nD τ).loc main_arg1) :=
  (dats (F := F) m ρ 0 c).arrAt_in (1 : Fin 3) rfl _

/-- What is staged of `x` is the whole argument. -/
theorem xstg_eq (c : Dev nD) : xstg m ρ c = m ((c : Thread nD τ).loc main_arg0) :=
  Memref.read_access_unit_zero (Elt F) main_arg0 (funext fun a => by fin_cases a <;> decide) (fun a => by fin_cases a <;> decide) _

/-- What is staged of `w` is the whole argument. -/
theorem wstg_eq (c : Dev nD) : wstg m ρ c = m ((c : Thread nD τ).loc main_arg1) :=
  Memref.read_access_unit_zero (Elt F) main_arg1 (funext fun a => by fin_cases a <;> decide) (fun a => by fin_cases a <;> decide) _

/-- The result array ends as the result buffer was left. -/
theorem final_out (c : Dev nD) : finalA m ρ c (2 : Fin 3) = outAt m ρ c := by
  have h : (win0_2.blk (0 : Fin 1)).view.read (Elt F) (finalA m ρ c (2 : Fin 3)) = outAt m ρ c := by
    unfold finalA
    rw [show cfg0.N = ((0 : Fin 1) : Fin cfg0.N).val + 1 from rfl, (dats m ρ 0 c).arrAt_succ (2 : Fin 3) (0 : Fin 1)]
    rw [show (cfg0.win (2 : Fin 3)).flush (0 : Fin 1) = true from by decide, if_pos rfl]
    exact View.read_write_univ _ _
  exact (Memref.read_access_unit_zero (Elt F) main_v1 (funext fun a => by fin_cases a <;> decide) (fun a => by fin_cases a <;> decide) _).symm.trans h

/-- The whole run: on every device the result is what the nine stores make, the arguments are unchanged, and all
    semaphores are at zero. -/
theorem run_result : θ_run defs (onTc (τ := τ) (main (F := F))) (s₀ m ρ)
    (fun r => (∀ c : Dev nD, r.2.mem ((c : Thread nD τ).loc main_v1) = outAt m ρ c
      ∧ r.2.mem ((c : Thread nD τ).loc main_arg0) = m ((c : Thread nD τ).loc main_arg0)
      ∧ r.2.mem ((c : Thread nD τ).loc main_arg1) = m ((c : Thread nD τ).loc main_arg1)) ∧ r.2.sem = fun _ => 0) :=
  (θ_run defs _ _).mono (fun _ h => ⟨fun c => ⟨(h.1 c (2 : Fin 3)).trans (final_out m ρ c),
    (h.1 c (0 : Fin 3)).trans (final_x m ρ c), (h.1 c (1 : Fin 3)).trans (final_w m ρ c)⟩, h.2⟩) (run_main m ρ)

end Cert.RingProof

end
-- ==== Proof.Value.lean ====
/- Over the extended reals, what the nine stores leave is the device's columns of the product of the whole arrays. -/
module

public import proofs.«01_k».proof.Proof.Final
public import Idealize.ShloMosaic.Lib.MatmulPlain
public import Idealize.ShloMosaic.Lib.Pipeline.ValueKit.Geometry

@[expose] public section

noncomputable section

namespace Cert.RingProof

open Cert.KernelIdeal Cert.KernelIdeal.Gen

open Idealize.ShloMosaic
open Idealize.ShloMosaic.TcCoe
open Idealize.ShloMosaic.ValueIdx
open scoped BigOperators

variable (m : (ℓ : Loc nD τ sig) → Buf (Elt Ideal) ℓ) (ρ : Dev nD → PrngReg)

/-! ## The whole arrays, and the product -/

/-- Contents of a square array of side 1024. -/
abbrev Sq : Type := (⟨2, ![1024, 1024]⟩ : Shape).Idx → EReal

/-- Row `r` of the product's column `j`: the sum over `k` of `X r k` times `W k j`. -/
def prod (X W : Sq) (r j : Fin 1024) : EReal := ∑ k : Fin 1024, X (ix2 r k) * W (ix2 k j)

/-- Column `j` of device `c`'s block of columns, in the whole array. -/
def colOf (c : Dev nD) (j : Fin 256) : Fin 1024 := ⟨256 * c.val + j.val, by have h : c.val < 4 := c.isLt; omega⟩

/-- What device `c` is to end with: all rows of its block of the product's columns. -/
def goal (X W : Sq) (c : Dev nD) (y : S1024x256.Idx) : EReal := prod X W (y 0) (colOf c (y 1))

/-- `X` is cut over the devices along its rows and `W` along its columns. -/
structure Cut (X W : Sq) : Prop where
  x : ∀ c : Dev nD, m ((c : Thread nD τ).loc main_arg0) = Layout.block ⟨2, ![256, 1024]⟩ ⟨2, ![1024, 1024]⟩ 0 4 c X
  w : ∀ c : Dev nD, m ((c : Thread nD τ).loc main_arg1) = Layout.block ⟨2, ![1024, 256]⟩ ⟨2, ![1024, 1024]⟩ 1 4 c W

variable {m} {X W : Sq}

/-! ## The cast blocks and the halves that travel -/

/-- `A` holds the `n` rows of `X` from row `o` on. -/
def RowsOf (X : Sq) (n o : ℕ) (A : (⟨2, ![n, 1024]⟩ : Shape).Idx → EReal) : Prop :=
  ∀ (r : Fin n) (k : Fin 1024) (R : Fin 1024), R.val = o + r.val → A (ix2 r k) = X (ix2 R k)

/-- The cast block of device `c` holds its 256 rows of `X`: over the extended reals the cast changes nothing. -/
theorem xb_rows (h : Cut m X W) (c : Dev nD) : RowsOf X 256 (256 * c.val) (xb m ρ c) := by
  intro r k R hR
  have e : xb m ρ c = m ((c : Thread nD τ).loc main_arg0) := by
    rw [← xstg_eq m ρ c]
    unfold xb k0_pay2 k0_pay1
    simp only [shapeCast_self]
    rfl
  rw [e, h.x c]
  show X _ = X _
  congr 1
  funext a
  apply Fin.ext
  match a with
  | ⟨0, _⟩ => show c.val * 256 + r.val = R.val; omega
  | ⟨1, _⟩ => rfl

/-- The cast block of columns of device `c`. -/
theorem wb_cols (h : Cut m X W) (c : Dev nD) (k : Fin 1024) (j : Fin 256) : wb m ρ c (ix2 k j) = W (ix2 k (colOf c j)) := by
  have e : wb m ρ c = m ((c : Thread nD τ).loc main_arg1) := by
    rw [← wstg_eq m ρ c]
    unfold wb k0_pay3
    simp only [shapeCast_self]
    rfl
  rw [e, h.w c]
  show W _ = W _
  congr 1
  funext a
  apply Fin.ext
  match a with
  | ⟨0, _⟩ => rfl
  | ⟨1, _⟩ => show c.val * 256 + j.val = 256 * c.val + j.val; omega

/-- Reading a run of rows of a buffer that holds rows of `X` gives rows of `X`. -/
theorem RowsOf.read {n n' o d : ℕ} {A : (⟨2, ![n, 1024]⟩ : Shape).Idx → EReal} {B : (⟨2, ![n', 1024]⟩ : Shape).Idx → EReal}
    (hA : RowsOf X n o A) (hd : d + n' ≤ n)
    (hB : ∀ (r : Fin n') (k : Fin 1024) (r' : Fin n), r'.val = d + r.val → B (ix2 r k) = A (ix2 r' k)) : RowsOf X n' (o + d) B := by
  intro r k R hR
  have hr := r.isLt
  exact (hB r k ⟨d + r.val, by omega⟩ rfl).trans (hA _ k R (by show R.val = o + (d + r.val); omega))

/-- The upper half of a device's cast block. -/
theorem top_rows (h : Cut m X W) (c : Dev nD) : RowsOf X 128 (256 * c.val + 0) (top m ρ c) := by
  refine (xb_rows ρ h c).read (d := 0) (by omega) fun r k r' hr => ?_
  show xb m ρ c _ = xb m ρ c _
  congr 1
  funext a
  apply Fin.ext
  match a with
  | ⟨0, _⟩ => show 0 + 1 * r.val = r'.val; omega
  | ⟨1, _⟩ => show 0 + 1 * k.val = k.val; omega

/-- The lower half of a device's cast block. -/
theorem bot_rows (h : Cut m X W) (c : Dev nD) : RowsOf X 128 (256 * c.val + 128) (bot m ρ c) := by
  refine (xb_rows ρ h c).read (d := 128) (by omega) fun r k r' hr => ?_
  show xb m ρ c _ = xb m ρ c _
  congr 1
  funext a
  apply Fin.ext
  match a with
  | ⟨0, _⟩ => show 128 + 1 * r.val = r'.val; omega
  | ⟨1, _⟩ => show 0 + 1 * k.val = k.val; omega

/-- The first 64 rows of a half. -/
theorem lo_rows {o : ℕ} {A : S128x1024.Idx → EReal} (hA : RowsOf X 128 o A)
    {B : S64x1024.Idx → EReal} (hB : ∀ x, B x = A (rLo.emb x)) : RowsOf X 64 (o + 0) B := by
  refine hA.read (d := 0) (by omega) fun r k r' hr => (hB _).trans ?_
  congr 1
  funext a
  apply Fin.ext
  match a with
  | ⟨0, _⟩ => show 0 + 1 * r.val = r'.val; omega
  | ⟨1, _⟩ => show 0 + 1 * k.val = k.val; omega

/-- The last 64 rows of a half. -/
theorem hi_rows {o : ℕ} {A : S128x1024.Idx → EReal} (hA : RowsOf X 128 o A)
    {B : S64x1024.Idx → EReal} (hB : ∀ x, B x = A (rHi.emb x)) : RowsOf X 64 (o + 64) B := by
  refine hA.read (d := 64) (by omega) fun r k r' hr => (hB _).trans ?_
  congr 1
  funext a
  apply Fin.ext
  match a with
  | ⟨0, _⟩ => show 64 + 1 * r.val = r'.val; omega
  | ⟨1, _⟩ => show 0 + 1 * k.val = k.val; omega

/-! ## One block product -/

/-- A product of `n` rows of `X` with the device's columns of `W`, stored from the row on at which those rows
    lie in `X`, is that part of the goal. -/
theorem piece_goal (h : Cut m X W) (c : Dev nD) {n o : ℕ} {A : (⟨2, ![n, 1024]⟩ : Shape).Idx → EReal} (hA : RowsOf X n o A)
    {off : Fin 2 → ℕ} (hoff : off = ![o, 0]) {inb : ∀ a, off a + (⟨2, ![n, 256]⟩ : Shape).size a ≤ S1024x256.size a}
    {P : (⟨2, ![n, 256]⟩ : Shape).Idx → EReal}
    (hP : P = FloatOps.matmul (F := Ideal) (φ₁ := .bf16) (φ₂ := .bf16) (DotDims.plain n 1024 256) none A (wb m ρ c) (constant (F := Ideal) ⟨2, ![n, 256]⟩ .f32 0x00000000#32))
    (x : (Rect.unit (s := S1024x256) off (⟨2, ![n, 256]⟩ : Shape).size inb).shape.Idx) :
    P x = goal X W c ((Rect.unit (s := S1024x256) off (⟨2, ![n, 256]⟩ : Shape).size inb).emb x) := by
  subst hP hoff
  obtain ⟨r, j, rfl⟩ : ∃ (r : Fin n) (j : Fin 256), x = ix2 r j := ⟨x 0, x 1, eq_ix2 x⟩
  refine (Ideal.matmul_plain_apply none A (wb m ρ c) _ r j).trans ?_
  have hz : constant (F := Ideal) (⟨2, ![n, 256]⟩ : Shape) .f32 0x00000000#32 (ix2 r j) = 0 := Ideal.ofBits_zero_f32
  rw [hz, zero_add]
  unfold goal prod
  refine Finset.sum_congr rfl fun k _ => ?_
  rw [wb_cols ρ h c k j]
  rw [hA r k (((Rect.unit (s := S1024x256) ![o, 0] (⟨2, ![n, 256]⟩ : Shape).size inb).emb (ix2 r j)) 0)
    (by show o + 1 * r.val = o + r.val; omega)]
  congr 3
  have : ((Rect.unit (s := S1024x256) ![o, 0] (⟨2, ![n, 256]⟩ : Shape).size inb).emb (ix2 r j)) 1 = j :=
    Fin.ext (by show 0 + 1 * j.val = j.val; omega)
  rw [this]

/-! ## The nine of them -/

/-- Each of the nine stores writes its part of the goal. -/
theorem pieces_goal (h : Cut m X W) (c : Dev nD) :
    ∀ p ∈ pcs (F := Ideal) m ρ c, ∀ x : p.1.shape.Idx, p.2 x = goal X W c (p.1.emb x) := by
  have hT := top_rows ρ h (nxt (nxt c))
  have hB := bot_rows ρ h (nxt (nxt c))
  intro p hp
  simp only [pcs, List.mem_cons, List.not_mem_nil, or_false] at hp
  rcases hp with rfl | rfl | rfl | rfl | rfl | rfl | rfl | rfl | rfl
  · exact piece_goal ρ h c (hi_rows hB fun _ => rfl) (off4d c) (inb := k0_off4_inb c 3) rfl
  · exact piece_goal ρ h c (hi_rows hT fun _ => rfl) (off4b c) (inb := k0_off4_inb c 1) rfl
  · exact piece_goal ρ h c (lo_rows hB fun _ => rfl) (off4c c) (inb := k0_off4_inb c 2) rfl
  · exact piece_goal ρ h c (lo_rows hT fun _ => rfl) (off4a c) (inb := k0_off4_inb c 0) rfl
  · exact piece_goal ρ h c (top_rows ρ h (nxt c)) (off3a c) (inb := k0_off3_inb c 0) rfl
  · exact piece_goal ρ h c (bot_rows ρ h (prv c)) (off2b c) (inb := k0_off2_inb c 1) rfl
  · exact piece_goal ρ h c (bot_rows ρ h (nxt c)) (off3b c) (inb := k0_off3_inb c 1) rfl
  · exact piece_goal ρ h c (top_rows ρ h (prv c)) (off2a c) (inb := k0_off2_inb c 0) rfl
  · exact piece_goal ρ h c (xb_rows ρ h c) (k0_off1_eq c) (inb := k0_off1_inb c) rfl

/-- Device `c` ends with its block of columns of the product of the whole arrays. -/
theorem out_goal (h : Cut m X W) (c : Dev nD) : outAt (F := Ideal) m ρ c = goal X W c := by
  funext y
  have e := View.read_writes_apply_of_pieces (Val := Elt Ideal) (oM : Memref sig .tc .vmem S1024x256 .f32).view (wstg m ρ c) (goal X W c)
    (pcs m ρ c) (pieces_goal ρ h c) y (cover m ρ c y)
  rw [rd_o] at e
  exact e

end Cert.RingProof

end
-- ==== Proof.lean ====
/- The claims about the all-gather fused with a matrix product, put together: the two runs of the kernel
   from the protocol proof, the run of the reference, and the equation between the two results. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import Idealize.ShloMosaic.Adequacy
public import Idealize.ShloMosaic.Init
public import proofs.«01_k».proof.Proof.Value

@[expose] public section

noncomputable section

namespace Cert.Proof

open Idealize.ShloMosaic Idealize.ShloMosaic.TcCoe Idealize.ShloMosaic.ValueIdx Idealize.SL.Sem
open scoped BigOperators

/-! ## Frames -/

/-- For any float values the kernel runs to the end on the four devices, leaves both arguments unchanged and all
    semaphores at zero. -/
theorem frame_any {F : FTy → Type} [FloatOps F]
    (m : (ℓ : Loc Cert.KernelIdeal.nD Cert.KernelIdeal.τ Cert.KernelIdeal.sig) → Buf (Elt F) ℓ) (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r =>
      (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0) :=
  (θ_run Cert.KernelIdeal.defs _ _).mono (fun _ h => ⟨fun c => (h.1 c).2, h.2⟩) (Cert.RingProof.run_result (F := F) m ρ)

/-- The two printed kernels have the same bodies, body by body. -/
theorem bodies_eq {F : FTy → Type} [FloatOps F] : Cert.Kernel.defs₀ (F := F) = Cert.KernelIdeal.defs₀ (F := F) := by
  funext κ l a
  rcases κ with _ | _ | _
  · obtain ⟨_ | n, h⟩ := l
    · rfl
    · exact absurd h (by omega)
  all_goals rfl

/-- Hence the same table of bodies and pipelines. -/
theorem tables_eq {F : FTy → Type} [FloatOps F] : Cert.Kernel.defs (F := F) = Cert.KernelIdeal.defs (F := F) :=
  congrArg (Pipeline.defs (Cert.KernelIdeal.pcfgs (F := F))) bodies_eq

/-- The kernel under the hardware's floats. -/
theorem frame_kernel : Cert.quiescent_Kernel := fun m ρ _ => by
  rw [tables_eq]
  exact frame_any (F := Bits) m ρ

/-- The kernel over the extended reals. -/
theorem frame_ideal : Cert.quiescent_KernelIdeal := fun m ρ _ => frame_any (F := Ideal) m ρ

/-- The reference runs to the end and leaves its arguments unchanged; it has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-! ## The value -/

/-- The reference's product of the whole arrays. -/
def whole (X W : Cert.RingProof.Sq) : Cert.RingProof.Sq :=
  Host.dotGeneral (F := Ideal) (φ₁ := .f32) (φ₂ := .f32) Cert.ReferenceIdeal.dot_S1024x1024_S1024x1024_S1024x1024_1_0_0_1_n_n none X W

/-- At each index it is the sum over the contracted coordinate. -/
theorem whole_apply (X W : Cert.RingProof.Sq) (r j : Fin 1024) : whole X W (ix2 r j) = Cert.RingProof.prod X W r j := by
  have e : whole X W (ix2 r j) = FloatOps.matmul (F := Ideal) (φ₁ := .f32) (φ₂ := .f32) (DotDims.plain 1024 1024 1024) none X W
      (constant (F := Ideal) ⟨2, ![1024, 1024]⟩ .f32 0x00000000#32) (ix2 r j) :=
    (Ideal.dotGeneral_apply _ _ _ X W (ix2 r j)).trans (Ideal.matmul_constant_zero_apply (DotDims.plain 1024 1024 1024) none X W (ix2 r j)).symm
  have hz : constant (F := Ideal) (⟨2, ![1024, 1024]⟩ : Shape) .f32 0x00000000#32 (ix2 r j) = 0 := Ideal.ofBits_zero_f32
  rw [e, Ideal.matmul_plain_apply, hz, zero_add]
  rfl

/-- What device `c` is to end with is its block of columns of the reference's product. -/
theorem goal_block (X W : Cert.RingProof.Sq) (c : Fin 4) :
    Cert.RingProof.goal X W c = Layout.block ⟨2, ![1024, 256]⟩ ⟨2, ![1024, 1024]⟩ 1 4 c (whole X W) := by
  funext y
  refine (whole_apply X W (y 0) (Cert.RingProof.colOf c (y 1))).symm.trans (congrArg (whole X W) (funext fun a => Fin.ext ?_))
  match a with
  | ⟨0, _⟩ => rfl
  | ⟨1, _⟩ =>
    show 256 * c.val + (y 1).val = c.val * 256 + (y 1).val
    omega

/-- From arguments cut over the devices, `x` along its rows and `w` along its columns, every device ends with its block
    of columns of what the reference computes of the whole arguments. -/
theorem algebraic : Cert.algebraic_KernelIdeal_ReferenceIdeal := by
  intro m ρ m' ρ' _ hcut
  have hc : Cert.RingProof.Cut m (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)) :=
    ⟨fun c => (hcut c).1, fun c => (hcut c).2⟩
  refine ⟨whole (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1)), ?_, ?_⟩
  · exact (θ_run Cert.KernelIdeal.defs _ _).mono
      (fun _ h c => ⟨(h.1 c).1.trans ((Cert.RingProof.out_goal ρ hc c).trans (goal_block _ _ c)), (h.1 c).2⟩)
      (Cert.RingProof.run_result (F := Ideal) m ρ)
  · exact (θ_run Cert.ReferenceIdeal.defs _ _).mono (fun _ h => h 0) (Cert.ReferenceIdeal.Value.run (F := Ideal) m' ρ')

/-- All the claims, with the side conditions the three programs state. -/
theorem claim : Cert.Claim := ⟨Cert.Kernel.Gen.facts, Cert.KernelIdeal.Gen.facts, Cert.ReferenceIdeal.Gen.facts,
  frame_kernel, frame_ideal, frame_reference, trivial, algebraic⟩

end Cert.Proof

end
